-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 256, 512]⟩ ⟨3, ![2, 1024, 512]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨3, ![2, 256, 256]⟩ ⟨3, ![2, 1024, 256]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 256, 256]⟩ ⟨3, ![2, 1024, 256]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 256, 512]⟩ ⟨3, ![2, 1024, 512]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x512 : Shape := ⟨3, ![2, 256, 512]⟩
abbrev S512x256 : Shape := ⟨2, ![512, 256]⟩
abbrev S2x256x256 : Shape := ⟨3, ![2, 256, 256]⟩
abbrev S256x512 : Shape := ⟨2, ![256, 512]⟩
abbrev S_ : Shape := ⟨0, ![]⟩

class Facts : Prop where
  bitsLt_bf16_f32 : FTy.bits .bf16 < FTy.bits .f32
  bcast_S_S2x256x512 : S_.BroadcastsInDim S2x256x512 (![] : Fin 0 → Fin S2x256x512.rank)
  bcast_S_S512x256 : S_.BroadcastsInDim S512x256 (![] : Fin 0 → Fin S512x256.rank)
  bcast_S_S2x256x256 : S_.BroadcastsInDim S2x256x256 (![] : Fin 0 → Fin S2x256x256.rank)

variable [Facts]

def fn_part1 {F : FTy → Type} [FloatOps F] (main_v6 : IVec S2x256x512 1) (main_v13 : IVec S512x256 1) (main_v16 : IVec S2x256x256 1) (main_v17 : FVec F S2x256x256 .f32) (main_cst_4 : FVec F S_ .f32) : IVec S2x256x512 1 × IVec S512x256 1 × IVec S2x256x256 1 :=
  let main_v18 : FVec F S2x256x256 .f32 := broadcastInDim S2x256x256 ![] bcast_S_S2x256x256 main_cst_4
  let main_v19 : IVec S2x256x256 1 := cmpf .olt main_v17 main_v18
  let main_v20 : IVec S2x256x256 1 := andi main_v16 main_v19
  (main_v6, main_v13, main_v20)

def fn {F : FTy → Type} [FloatOps F] (main_arg0 : FVec F S2x256x512 .bf16) (main_arg1 : FVec F S512x256 .bf16) (main_arg2 : FVec F S2x256x256 .bf16) (main_arg3 : FVec F S2x256x256 .bf16) (main_arg4 : FVec F S256x512 .bf16) : IVec S2x256x512 1 × IVec S512x256 1 × IVec S2x256x256 1 :=
  let main_v0 : FVec F S2x256x512 .f32 := (extf .f32 · bitsLt_bf16_f32) main_arg0
  let main_cst : FVec F S_ .f32 := constant S_ .f32 0xFF800000#32
  let main_v1 : FVec F S2x256x512 .f32 := broadcastInDim S2x256x512 ![] bcast_S_S2x256x512 main_cst
  let main_v2 : IVec S2x256x512 1 := cmpf .ogt main_v0 main_v1
  let main_v3 : FVec F S2x256x512 .f32 := (extf .f32 · bitsLt_bf16_f32) main_arg0
  let main_cst_0 : FVec F S_ .f32 := constant S_ .f32 0x7F800000#32
  let main_v4 : FVec F S2x256x512 .f32 := broadcastInDim S2x256x512 ![] bcast_S_S2x256x512 main_cst_0
  let main_v5 : IVec S2x256x512 1 := cmpf .olt main_v3 main_v4
  let main_v6 : IVec S2x256x512 1 := andi main_v2 main_v5
  let main_v7 : FVec F S512x256 .f32 := (extf .f32 · bitsLt_bf16_f32) main_arg1
  let main_cst_1 : FVec F S_ .f32 := constant S_ .f32 0xFF800000#32
  let main_v8 : FVec F S512x256 .f32 := broadcastInDim S512x256 ![] bcast_S_S512x256 main_cst_1
  let main_v9 : IVec S512x256 1 := cmpf .ogt main_v7 main_v8
  let main_v10 : FVec F S512x256 .f32 := (extf .f32 · bitsLt_bf16_f32) main_arg1
  let main_cst_2 : FVec F S_ .f32 := constant S_ .f32 0x7F800000#32
  let main_v11 : FVec F S512x256 .f32 := broadcastInDim S512x256 ![] bcast_S_S512x256 main_cst_2
  let main_v12 : IVec S512x256 1 := cmpf .olt main_v10 main_v11
  let main_v13 : IVec S512x256 1 := andi main_v9 main_v12
  let main_v14 : FVec F S2x256x256 .f32 := (extf .f32 · bitsLt_bf16_f32) main_arg2
  let main_cst_3 : FVec F S_ .f32 := constant S_ .f32 0xFF800000#32
  let main_v15 : FVec F S2x256x256 .f32 := broadcastInDim S2x256x256 ![] bcast_S_S2x256x256 main_cst_3
  let main_v16 : IVec S2x256x256 1 := cmpf .ogt main_v14 main_v15
  let main_v17 : FVec F S2x256x256 .f32 := (extf .f32 · bitsLt_bf16_f32) main_arg2
  let main_cst_4 : FVec F S_ .f32 := constant S_ .f32 0x7F800000#32
  fn_part1 (F := F) main_v6 main_v13 main_v16 main_v17 main_cst_4
-- ==== Pre_finite_ReferenceIdeal.lean ====
abbrev S2x1024x512 : Shape := ⟨3, ![2, 1024, 512]⟩
abbrev S512x256 : Shape := ⟨2, ![512, 256]⟩
abbrev S2x1024x256 : Shape := ⟨3, ![2, 1024, 256]⟩
abbrev S256x512 : Shape := ⟨2, ![256, 512]⟩
abbrev S_ : Shape := ⟨0, ![]⟩

class Facts : Prop where
  bitsLt_bf16_f32 : FTy.bits .bf16 < FTy.bits .f32
  bcast_S_S2x1024x512 : S_.BroadcastsInDim S2x1024x512 (![] : Fin 0 → Fin S2x1024x512.rank)
  bcast_S_S512x256 : S_.BroadcastsInDim S512x256 (![] : Fin 0 → Fin S512x256.rank)
  bcast_S_S2x1024x256 : S_.BroadcastsInDim S2x1024x256 (![] : Fin 0 → Fin S2x1024x256.rank)

variable [Facts]

def fn_part1 {F : FTy → Type} [FloatOps F] (main_v6 : IVec S2x1024x512 1) (main_v13 : IVec S512x256 1) (main_v16 : IVec S2x1024x256 1) (main_v17 : FVec F S2x1024x256 .f32) (main_cst_4 : FVec F S_ .f32) : IVec S2x1024x512 1 × IVec S512x256 1 × IVec S2x1024x256 1 :=
  let main_v18 : FVec F S2x1024x256 .f32 := broadcastInDim S2x1024x256 ![] bcast_S_S2x1024x256 main_cst_4
  let main_v19 : IVec S2x1024x256 1 := cmpf .olt main_v17 main_v18
  let main_v20 : IVec S2x1024x256 1 := andi main_v16 main_v19
  (main_v6, main_v13, main_v20)

def fn {F : FTy → Type} [FloatOps F] (main_arg0 : FVec F S2x1024x512 .bf16) (main_arg1 : FVec F S512x256 .bf16) (main_arg2 : FVec F S2x1024x256 .bf16) (main_arg3 : FVec F S2x1024x256 .bf16) (main_arg4 : FVec F S256x512 .bf16) : IVec S2x1024x512 1 × IVec S512x256 1 × IVec S2x1024x256 1 :=
  let main_v0 : FVec F S2x1024x512 .f32 := (extf .f32 · bitsLt_bf16_f32) main_arg0
  let main_cst : FVec F S_ .f32 := constant S_ .f32 0xFF800000#32
  let main_v1 : FVec F S2x1024x512 .f32 := broadcastInDim S2x1024x512 ![] bcast_S_S2x1024x512 main_cst
  let main_v2 : IVec S2x1024x512 1 := cmpf .ogt main_v0 main_v1
  let main_v3 : FVec F S2x1024x512 .f32 := (extf .f32 · bitsLt_bf16_f32) main_arg0
  let main_cst_0 : FVec F S_ .f32 := constant S_ .f32 0x7F800000#32
  let main_v4 : FVec F S2x1024x512 .f32 := broadcastInDim S2x1024x512 ![] bcast_S_S2x1024x512 main_cst_0
  let main_v5 : IVec S2x1024x512 1 := cmpf .olt main_v3 main_v4
  let main_v6 : IVec S2x1024x512 1 := andi main_v2 main_v5
  let main_v7 : FVec F S512x256 .f32 := (extf .f32 · bitsLt_bf16_f32) main_arg1
  let main_cst_1 : FVec F S_ .f32 := constant S_ .f32 0xFF800000#32
  let main_v8 : FVec F S512x256 .f32 := broadcastInDim S512x256 ![] bcast_S_S512x256 main_cst_1
  let main_v9 : IVec S512x256 1 := cmpf .ogt main_v7 main_v8
  let main_v10 : FVec F S512x256 .f32 := (extf .f32 · bitsLt_bf16_f32) main_arg1
  let main_cst_2 : FVec F S_ .f32 := constant S_ .f32 0x7F800000#32
  let main_v11 : FVec F S512x256 .f32 := broadcastInDim S512x256 ![] bcast_S_S512x256 main_cst_2
  let main_v12 : IVec S512x256 1 := cmpf .olt main_v10 main_v11
  let main_v13 : IVec S512x256 1 := andi main_v9 main_v12
  let main_v14 : FVec F S2x1024x256 .f32 := (extf .f32 · bitsLt_bf16_f32) main_arg2
  let main_cst_3 : FVec F S_ .f32 := constant S_ .f32 0xFF800000#32
  let main_v15 : FVec F S2x1024x256 .f32 := broadcastInDim S2x1024x256 ![] bcast_S_S2x1024x256 main_cst_3
  let main_v16 : IVec S2x1024x256 1 := cmpf .ogt main_v14 main_v15
  let main_v17 : FVec F S2x1024x256 .f32 := (extf .f32 · bitsLt_bf16_f32) main_arg2
  let main_cst_4 : FVec F S_ .f32 := constant S_ .f32 0x7F800000#32
  fn_part1 (F := F) main_v6 main_v13 main_v16 main_v17 main_cst_4
-- ==== Kernel.lean ====
abbrev S2x256x512 : Shape := ⟨3, ![2, 256, 512]⟩
abbrev S512x256 : Shape := ⟨2, ![512, 256]⟩
abbrev S2x256x256 : Shape := ⟨3, ![2, 256, 256]⟩
abbrev S256x512 : Shape := ⟨2, ![256, 512]⟩
abbrev S4x2x256x256 : Shape := ⟨4, ![4, 2, 256, 256]⟩
abbrev S3 : Shape := ⟨1, ![3]⟩
abbrev S4 : Shape := ⟨1, ![4]⟩
abbrev S1x2x256x256 : Shape := ⟨4, ![1, 2, 256, 256]⟩
abbrev S_ : Shape := ⟨0, ![]⟩
abbrev S1 : Shape := ⟨1, ![1]⟩
abbrev S1x256x512 : Shape := ⟨3, ![1, 256, 512]⟩
abbrev S256x256 : Shape := ⟨2, ![256, 256]⟩
abbrev S1x256x256 : Shape := ⟨3, ![1, 256, 256]⟩
abbrev S256x64 : Shape := ⟨2, ![256, 64]⟩
abbrev S256 : Shape := ⟨1, ![256]⟩
abbrev S256x1 : Shape := ⟨2, ![256, 1]⟩
abbrev S1x1x256x256 : Shape := ⟨4, ![1, 1, 256, 256]⟩

abbrev nBuf : Space → Nat
  | .hbm => 6
  | .vmem => 8
  | .smem => 0
  | _ => 0

abbrev bufTy : (tb : Table) → Fin (tcTables nBuf tb) → BufTy
  | .hbm, ⟨0, _⟩ => ⟨S2x256x512, .bf16⟩
  | .hbm, ⟨1, _⟩ => ⟨S512x256, .bf16⟩
  | .hbm, ⟨2, _⟩ => ⟨S2x256x256, .bf16⟩
  | .hbm, ⟨3, _⟩ => ⟨S2x256x256, .bf16⟩
  | .hbm, ⟨4, _⟩ => ⟨S256x512, .bf16⟩
  | .hbm, ⟨5, _⟩ => ⟨S2x256x512, .f32⟩
  | .local _ .vmem, ⟨0, _⟩ => ⟨S2x256x512, .bf16⟩
  | .local _ .vmem, ⟨1, _⟩ => ⟨S512x256, .bf16⟩
  | .local _ .vmem, ⟨2, _⟩ => ⟨S2x256x256, .bf16⟩
  | .local _ .vmem, ⟨3, _⟩ => ⟨S2x256x256, .bf16⟩
  | .local _ .vmem, ⟨4, _⟩ => ⟨S256x512, .bf16⟩
  | .local _ .vmem, ⟨5, _⟩ => ⟨S2x256x512, .f32⟩
  | .local _ .vmem, ⟨6, _⟩ => ⟨S4x2x256x256, .bf16⟩
  | .local _ .vmem, ⟨7, _⟩ => ⟨S4x2x256x256, .bf16⟩
  | _, _ => ⟨S2x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 2 → Bool
  | ⟨0, _⟩ => false
  | ⟨1, _⟩ => true
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 2 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_off1 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v14 : Index := Scalar.indexCast v2
  let c0_5 : Index := 0#32
  let c0_6 : Index := 0#32
  let c0_7 : Index := 0#32
  ![v14.toNat, 0, 0, 0]
def k0_dev1 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_14 : BitVec 32 := 1#32
  let v25 : BitVec 32 := Scalar.addi v2 c1_i32_14
  let c4_i32_15 : BitVec 32 := 4#32
  let c0_i32_16 : BitVec 32 := 0#32
  let v26 : BitVec 1 := Scalar.cmpi .eq c4_i32_15 c0_i32_16
  let c1_i32_17 : BitVec 32 := 1#32
  let v27 : BitVec 32 := Scalar.select v26 c1_i32_17 c4_i32_15
  let v28 : BitVec 32 := Scalar.remsi v25 v27
  let c0_i32_19 : BitVec 32 := 0#32
  let v30 : BitVec 1 := Scalar.cmpi .slt v28 c0_i32_19
  let c0_i32_20 : BitVec 32 := 0#32
  let v31 : BitVec 1 := Scalar.cmpi .slt v27 c0_i32_20
  let v32 : BitVec 1 := Scalar.xori v30 v31
  let c0_i32_18 : BitVec 32 := 0#32
  let v29 : BitVec 1 := Scalar.cmpi .ne v28 c0_i32_18
  let v33 : BitVec 1 := Scalar.andi v32 v29
  let v34 : BitVec 32 := Scalar.addi v28 v27
  let v35 : BitVec 32 := Scalar.select v33 v34 v28
  let c1_i32_22 : BitVec 32 := 1#32
  let v36 : BitVec 32 := Scalar.muli v35 c1_i32_22
  let v37 : BitVec 32 := Scalar.addi c0_i32_23 v36
  v37.toNat
def k0_dev2 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_24 : BitVec 32 := 2#32
  let v38 : BitVec 32 := Scalar.addi v2 c2_i32_24
  let c4_i32_25 : BitVec 32 := 4#32
  let c0_i32_26 : BitVec 32 := 0#32
  let v39 : BitVec 1 := Scalar.cmpi .eq c4_i32_25 c0_i32_26
  let c1_i32_27 : BitVec 32 := 1#32
  let v40 : BitVec 32 := Scalar.select v39 c1_i32_27 c4_i32_25
  let v41 : BitVec 32 := Scalar.remsi v38 v40
  let c0_i32_29 : BitVec 32 := 0#32
  let v43 : BitVec 1 := Scalar.cmpi .slt v41 c0_i32_29
  let c0_i32_30 : BitVec 32 := 0#32
  let v44 : BitVec 1 := Scalar.cmpi .slt v40 c0_i32_30
  let v45 : BitVec 1 := Scalar.xori v43 v44
  let c0_i32_28 : BitVec 32 := 0#32
  let v42 : BitVec 1 := Scalar.cmpi .ne v41 c0_i32_28
  let v46 : BitVec 1 := Scalar.andi v45 v42
  let v47 : BitVec 32 := Scalar.addi v41 v40
  let v48 : BitVec 32 := Scalar.select v46 v47 v41
  let c1_i32_32 : BitVec 32 := 1#32
  let v49 : BitVec 32 := Scalar.muli v48 c1_i32_32
  let v50 : BitVec 32 := Scalar.addi c0_i32_33 v49
  v50.toNat
def k0_dev3 (d0 : Dev nD) : Nat :=
  let c0_i32_43 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_34 : BitVec 32 := 3#32
  let v51 : BitVec 32 := Scalar.addi v2 c3_i32_34
  let c4_i32_35 : BitVec 32 := 4#32
  let c0_i32_36 : BitVec 32 := 0#32
  let v52 : BitVec 1 := Scalar.cmpi .eq c4_i32_35 c0_i32_36
  let c1_i32_37 : BitVec 32 := 1#32
  let v53 : BitVec 32 := Scalar.select v52 c1_i32_37 c4_i32_35
  let v54 : BitVec 32 := Scalar.remsi v51 v53
  let c0_i32_39 : BitVec 32 := 0#32
  let v56 : BitVec 1 := Scalar.cmpi .slt v54 c0_i32_39
  let c0_i32_40 : BitVec 32 := 0#32
  let v57 : BitVec 1 := Scalar.cmpi .slt v53 c0_i32_40
  let v58 : BitVec 1 := Scalar.xori v56 v57
  let c0_i32_38 : BitVec 32 := 0#32
  let v55 : BitVec 1 := Scalar.cmpi .ne v54 c0_i32_38
  let v59 : BitVec 1 := Scalar.andi v58 v55
  let v60 : BitVec 32 := Scalar.addi v54 v53
  let v61 : BitVec 32 := Scalar.select v59 v60 v54
  let c1_i32_42 : BitVec 32 := 1#32
  let v62 : BitVec 32 := Scalar.muli v61 c1_i32_42
  let v63 : BitVec 32 := Scalar.addi c0_i32_43 v62
  v63.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_45 : BitVec 32 := 1#32
  let v64 : BitVec 32 := Scalar.addi v2 c1_i32_45
  let c3_i32_46 : BitVec 32 := 3#32
  let v65 : BitVec 1 := Scalar.cmpi .sle v64 c3_i32_46
  let v66 : BitVec 32 := Scalar.extui v65
  let c0_i32_47 : BitVec 32 := 0#32
  let v67 : BitVec 1 := Scalar.cmpi .ne v66 c0_i32_47
  v67

def k0_off2 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off3 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_357 : BitVec 32 := 0#32
  let c0_i32_358 : BitVec 32 := 0#32
  let c0_i32_359 : BitVec 32 := 0#32
  ![v2.toNat, 0, 0, 0]
def k0_dev4 (d0 : Dev nD) : Nat :=
  let c0_i32_356 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_352 : BitVec 32 := 1#32
  let v1016 : BitVec 32 := Scalar.addi v2 c1_i32_352
  let c3_i32_353 : BitVec 32 := 3#32
  let v1017 : BitVec 32 := Scalar.minsi v1016 c3_i32_353
  let c1_i32_355 : BitVec 32 := 1#32
  let v1018 : BitVec 32 := Scalar.muli v1017 c1_i32_355
  let v1019 : BitVec 32 := Scalar.addi c0_i32_356 v1018
  v1019.toNat
def k0_dev5 (d0 : Dev nD) : Nat :=
  let c0_i32_365 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_352 : BitVec 32 := 1#32
  let v1016 : BitVec 32 := Scalar.addi v2 c1_i32_352
  let c3_i32_353 : BitVec 32 := 3#32
  let v1017 : BitVec 32 := Scalar.minsi v1016 c3_i32_353
  let c1_i32_364 : BitVec 32 := 1#32
  let v1028 : BitVec 32 := Scalar.muli v1017 c1_i32_364
  let v1029 : BitVec 32 := Scalar.addi c0_i32_365 v1028
  v1029.toNat
def k0_cond5 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_48 : BitVec 32 := 2#32
  let v68 : BitVec 32 := Scalar.addi v2 c2_i32_48
  let c3_i32_49 : BitVec 32 := 3#32
  let v69 : BitVec 1 := Scalar.cmpi .sle v68 c3_i32_49
  let v70 : BitVec 32 := Scalar.extui v69
  let c0_i32_50 : BitVec 32 := 0#32
  let v71 : BitVec 1 := Scalar.cmpi .ne v70 c0_i32_50
  v71

def k0_off4 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off5 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_357 : BitVec 32 := 0#32
  let c0_i32_358 : BitVec 32 := 0#32
  let c0_i32_359 : BitVec 32 := 0#32
  ![v2.toNat, 0, 0, 0]
def k0_dev6 (d0 : Dev nD) : Nat :=
  let c0_i32_356 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_352 : BitVec 32 := 2#32
  let v1016 : BitVec 32 := Scalar.addi v2 c2_i32_352
  let c3_i32_353 : BitVec 32 := 3#32
  let v1017 : BitVec 32 := Scalar.minsi v1016 c3_i32_353
  let c1_i32_355 : BitVec 32 := 1#32
  let v1018 : BitVec 32 := Scalar.muli v1017 c1_i32_355
  let v1019 : BitVec 32 := Scalar.addi c0_i32_356 v1018
  v1019.toNat
def k0_dev7 (d0 : Dev nD) : Nat :=
  let c0_i32_365 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_352 : BitVec 32 := 2#32
  let v1016 : BitVec 32 := Scalar.addi v2 c2_i32_352
  let c3_i32_353 : BitVec 32 := 3#32
  let v1017 : BitVec 32 := Scalar.minsi v1016 c3_i32_353
  let c1_i32_364 : BitVec 32 := 1#32
  let v1028 : BitVec 32 := Scalar.muli v1017 c1_i32_364
  let v1029 : BitVec 32 := Scalar.addi c0_i32_365 v1028
  v1029.toNat
def k0_cond6 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_51 : BitVec 32 := 3#32
  let v72 : BitVec 32 := Scalar.addi v2 c3_i32_51
  let c3_i32_52 : BitVec 32 := 3#32
  let v73 : BitVec 1 := Scalar.cmpi .sle v72 c3_i32_52
  let v74 : BitVec 32 := Scalar.extui v73
  let c0_i32_53 : BitVec 32 := 0#32
  let v75 : BitVec 1 := Scalar.cmpi .ne v74 c0_i32_53
  v75

def k0_off6 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off7 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_357 : BitVec 32 := 0#32
  let c0_i32_358 : BitVec 32 := 0#32
  let c0_i32_359 : BitVec 32 := 0#32
  ![v2.toNat, 0, 0, 0]
def k0_dev8 (d0 : Dev nD) : Nat :=
  let c0_i32_356 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_352 : BitVec 32 := 3#32
  let v1016 : BitVec 32 := Scalar.addi v2 c3_i32_352
  let c3_i32_353 : BitVec 32 := 3#32
  let v1017 : BitVec 32 := Scalar.minsi v1016 c3_i32_353
  let c1_i32_355 : BitVec 32 := 1#32
  let v1018 : BitVec 32 := Scalar.muli v1017 c1_i32_355
  let v1019 : BitVec 32 := Scalar.addi c0_i32_356 v1018
  v1019.toNat
def k0_dev9 (d0 : Dev nD) : Nat :=
  let c0_i32_365 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_352 : BitVec 32 := 3#32
  let v1016 : BitVec 32 := Scalar.addi v2 c3_i32_352
  let c3_i32_353 : BitVec 32 := 3#32
  let v1017 : BitVec 32 := Scalar.minsi v1016 c3_i32_353
  let c1_i32_364 : BitVec 32 := 1#32
  let v1028 : BitVec 32 := Scalar.muli v1017 c1_i32_364
  let v1029 : BitVec 32 := Scalar.addi c0_i32_365 v1028
  v1029.toNat
def k0_cond10 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_343 : BitVec 32 := 1#32
  let v1004 : BitVec 32 := Scalar.addi v2 c1_i32_343
  let c3_i32_344 : BitVec 32 := 3#32
  let v1005 : BitVec 1 := Scalar.cmpi .sle v1004 c3_i32_344
  let v1006 : BitVec 32 := Scalar.extui v1005
  let c0_i32_345 : BitVec 32 := 0#32
  let v1007 : BitVec 1 := Scalar.cmpi .ne v1006 c0_i32_345
  v1007

def k0_off8 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_356 : BitVec 32 := 0#32
  let c0_i32_357 : BitVec 32 := 0#32
  let c0_i32_358 : BitVec 32 := 0#32
  ![v2.toNat, 0, 0, 0]
def k0_cond11 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_346 : BitVec 32 := 2#32
  let v1008 : BitVec 32 := Scalar.addi v2 c2_i32_346
  let c3_i32_347 : BitVec 32 := 3#32
  let v1009 : BitVec 1 := Scalar.cmpi .sle v1008 c3_i32_347
  let v1010 : BitVec 32 := Scalar.extui v1009
  let c0_i32_348 : BitVec 32 := 0#32
  let v1011 : BitVec 1 := Scalar.cmpi .ne v1010 c0_i32_348
  v1011

def k0_off9 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_356 : BitVec 32 := 0#32
  let c0_i32_357 : BitVec 32 := 0#32
  let c0_i32_358 : BitVec 32 := 0#32
  ![v2.toNat, 0, 0, 0]
def k0_cond12 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_349 : BitVec 32 := 3#32
  let v1012 : BitVec 32 := Scalar.addi v2 c3_i32_349
  let c3_i32_350 : BitVec 32 := 3#32
  let v1013 : BitVec 1 := Scalar.cmpi .sle v1012 c3_i32_350
  let v1014 : BitVec 32 := Scalar.extui v1013
  let c0_i32_351 : BitVec 32 := 0#32
  let v1015 : BitVec 1 := Scalar.cmpi .ne v1014 c0_i32_351
  v1015

def k0_off10 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_356 : BitVec 32 := 0#32
  let c0_i32_357 : BitVec 32 := 0#32
  let c0_i32_358 : BitVec 32 := 0#32
  ![v2.toNat, 0, 0, 0]
def k0_dev10 (d0 : Dev nD) : Nat :=
  let c0_i32_361_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_352_r0 : BitVec 32 := 1#32
  let v1017_r0 : BitVec 32 := Scalar.addi v2 c1_i32_352_r0
  let c4_i32_353_r0 : BitVec 32 := 4#32
  let c0_i32_354_r0 : BitVec 32 := 0#32
  let v1018_r0 : BitVec 1 := Scalar.cmpi .eq c4_i32_353_r0 c0_i32_354_r0
  let c1_i32_355_r0 : BitVec 32 := 1#32
  let v1019_r0 : BitVec 32 := Scalar.select v1018_r0 c1_i32_355_r0 c4_i32_353_r0
  let v1020_r0 : BitVec 32 := Scalar.remsi v1017_r0 v1019_r0
  let c0_i32_357_r0 : BitVec 32 := 0#32
  let v1022_r0 : BitVec 1 := Scalar.cmpi .slt v1020_r0 c0_i32_357_r0
  let c0_i32_358_r0 : BitVec 32 := 0#32
  let v1023_r0 : BitVec 1 := Scalar.cmpi .slt v1019_r0 c0_i32_358_r0
  let v1024_r0 : BitVec 1 := Scalar.xori v1022_r0 v1023_r0
  let c0_i32_356_r0 : BitVec 32 := 0#32
  let v1021_r0 : BitVec 1 := Scalar.cmpi .ne v1020_r0 c0_i32_356_r0
  let v1025_r0 : BitVec 1 := Scalar.andi v1024_r0 v1021_r0
  let v1026_r0 : BitVec 32 := Scalar.addi v1020_r0 v1019_r0
  let v1027_r0 : BitVec 32 := Scalar.select v1025_r0 v1026_r0 v1020_r0
  let c1_i32_360_r0 : BitVec 32 := 1#32
  let v1028_r0 : BitVec 32 := Scalar.muli v1027_r0 c1_i32_360_r0
  let v1029_r0 : BitVec 32 := Scalar.addi c0_i32_361_r0 v1028_r0
  v1029_r0.toNat
def k0_dev11 (d0 : Dev nD) : Nat :=
  let c0_i32_371_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_362_r0 : BitVec 32 := 2#32
  let v1030_r0 : BitVec 32 := Scalar.addi v2 c2_i32_362_r0
  let c4_i32_363_r0 : BitVec 32 := 4#32
  let c0_i32_364_r0 : BitVec 32 := 0#32
  let v1031_r0 : BitVec 1 := Scalar.cmpi .eq c4_i32_363_r0 c0_i32_364_r0
  let c1_i32_365_r0 : BitVec 32 := 1#32
  let v1032_r0 : BitVec 32 := Scalar.select v1031_r0 c1_i32_365_r0 c4_i32_363_r0
  let v1033_r0 : BitVec 32 := Scalar.remsi v1030_r0 v1032_r0
  let c0_i32_367_r0 : BitVec 32 := 0#32
  let v1035_r0 : BitVec 1 := Scalar.cmpi .slt v1033_r0 c0_i32_367_r0
  let c0_i32_368_r0 : BitVec 32 := 0#32
  let v1036_r0 : BitVec 1 := Scalar.cmpi .slt v1032_r0 c0_i32_368_r0
  let v1037_r0 : BitVec 1 := Scalar.xori v1035_r0 v1036_r0
  let c0_i32_366_r0 : BitVec 32 := 0#32
  let v1034_r0 : BitVec 1 := Scalar.cmpi .ne v1033_r0 c0_i32_366_r0
  let v1038_r0 : BitVec 1 := Scalar.andi v1037_r0 v1034_r0
  let v1039_r0 : BitVec 32 := Scalar.addi v1033_r0 v1032_r0
  let v1040_r0 : BitVec 32 := Scalar.select v1038_r0 v1039_r0 v1033_r0
  let c1_i32_370_r0 : BitVec 32 := 1#32
  let v1041_r0 : BitVec 32 := Scalar.muli v1040_r0 c1_i32_370_r0
  let v1042_r0 : BitVec 32 := Scalar.addi c0_i32_371_r0 v1041_r0
  v1042_r0.toNat
def k0_dev12 (d0 : Dev nD) : Nat :=
  let c0_i32_381_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_372_r0 : BitVec 32 := 3#32
  let v1043_r0 : BitVec 32 := Scalar.addi v2 c3_i32_372_r0
  let c4_i32_373_r0 : BitVec 32 := 4#32
  let c0_i32_374_r0 : BitVec 32 := 0#32
  let v1044_r0 : BitVec 1 := Scalar.cmpi .eq c4_i32_373_r0 c0_i32_374_r0
  let c1_i32_375_r0 : BitVec 32 := 1#32
  let v1045_r0 : BitVec 32 := Scalar.select v1044_r0 c1_i32_375_r0 c4_i32_373_r0
  let v1046_r0 : BitVec 32 := Scalar.remsi v1043_r0 v1045_r0
  let c0_i32_377_r0 : BitVec 32 := 0#32
  let v1048_r0 : BitVec 1 := Scalar.cmpi .slt v1046_r0 c0_i32_377_r0
  let c0_i32_378_r0 : BitVec 32 := 0#32
  let v1049_r0 : BitVec 1 := Scalar.cmpi .slt v1045_r0 c0_i32_378_r0
  let v1050_r0 : BitVec 1 := Scalar.xori v1048_r0 v1049_r0
  let c0_i32_376_r0 : BitVec 32 := 0#32
  let v1047_r0 : BitVec 1 := Scalar.cmpi .ne v1046_r0 c0_i32_376_r0
  let v1051_r0 : BitVec 1 := Scalar.andi v1050_r0 v1047_r0
  let v1052_r0 : BitVec 32 := Scalar.addi v1046_r0 v1045_r0
  let v1053_r0 : BitVec 32 := Scalar.select v1051_r0 v1052_r0 v1046_r0
  let c1_i32_380_r0 : BitVec 32 := 1#32
  let v1054_r0 : BitVec 32 := Scalar.muli v1053_r0 c1_i32_380_r0
  let v1055_r0 : BitVec 32 := Scalar.addi c0_i32_381_r0 v1054_r0
  v1055_r0.toNat
abbrev stage0_0 : Fin 1 → Memref sig .tc .vmem S2x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x1024x512 : Shape := ⟨3, ![2, 1024, 512]⟩
abbrev S512x256 : Shape := ⟨2, ![512, 256]⟩
abbrev S2x1024x256 : Shape := ⟨3, ![2, 1024, 256]⟩
abbrev S256x512 : Shape := ⟨2, ![256, 512]⟩
abbrev S2x1024x4x64 : Shape := ⟨4, ![2, 1024, 4, 64]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S2x4x1024x1024 : Shape := ⟨4, ![2, 4, 1024, 1024]⟩
abbrev S1x1x1024x1024 : Shape := ⟨4, ![1, 1, 1024, 1024]⟩
abbrev S2x4x1024 : Shape := ⟨3, ![2, 4, 1024]⟩
abbrev S2x4x1024x1 : Shape := ⟨4, ![2, 4, 1024, 1]⟩
abbrev S1x1x1024x1 : Shape := ⟨4, ![1, 1, 1024, 1]⟩
abbrev S2x4x64x1024 : Shape := ⟨4, ![2, 4, 64, 1024]⟩

abbrev nBuf : Space → Nat
  | .hbm => 100
  | .vmem => 0
  | .smem => 0
  | _ => 0

abbrev bufTy : (tb : Table) → Fin (tcTables nBuf tb) → BufTy
  | .hbm, ⟨0, _⟩ => ⟨S2x1024x512, .bf16⟩
  | .hbm, ⟨1, _⟩ => ⟨S512x256, .bf16⟩
  | .hbm, ⟨2, _⟩ => ⟨S2x1024x256, .bf16⟩
  | .hbm, ⟨3, _⟩ => ⟨S2x1024x256, .bf16⟩
  | .hbm, ⟨4, _⟩ => ⟨S256x512, .bf16⟩
  | .hbm, ⟨5, _⟩ => ⟨S2x1024x256, .f32⟩
  | .hbm, ⟨6, _⟩ => ⟨S2x1024x4x64, .f32⟩
  | .hbm, ⟨7, _⟩ => ⟨S2x1024x256, .f32⟩
  | .hbm, ⟨8, _⟩ => ⟨S2x1024x4x64, .f32⟩
  | .hbm, ⟨9, _⟩ => ⟨S2x1024x512, .f32⟩
  | .hbm, ⟨10, _⟩ => ⟨S512x256, .f32⟩
  | .hbm, ⟨11, _⟩ => ⟨S2x1024x256, .f32⟩
  | .hbm, ⟨12, _⟩ => ⟨S2x1024x256, .bf16⟩
  | .hbm, ⟨13, _⟩ => ⟨S2x1024x256, .f32⟩
  | .hbm, ⟨14, _⟩ => ⟨S2x1024x4x64, .f32⟩
  | .hbm, ⟨15, _⟩ => ⟨S1024, .i32⟩
  | .hbm, ⟨16, _⟩ => ⟨S_, .i32⟩
  | .hbm, ⟨17, _⟩ => ⟨S_, .i32⟩
  | .hbm, ⟨18, _⟩ => ⟨S1024, .i32⟩
  | .hbm, ⟨19, _⟩ => ⟨S1024, .i32⟩
  | .hbm, ⟨20, _⟩ => ⟨S1024, .i32⟩
  | .hbm, ⟨21, _⟩ => ⟨S_, .i32⟩
  | .hbm, ⟨22, _⟩ => ⟨S1024, .i32⟩
  | .hbm, ⟨23, _⟩ => ⟨S1024, .i1⟩
  | .hbm, ⟨24, _⟩ => ⟨S1024, .i32⟩
  | .hbm, ⟨25, _⟩ => ⟨S1024, .i32⟩
  | .hbm, ⟨26, _⟩ => ⟨S_, .i32⟩
  | .hbm, ⟨27, _⟩ => ⟨S1024, .i32⟩
  | .hbm, ⟨28, _⟩ => ⟨S1024, .i1⟩
  | .hbm, ⟨29, _⟩ => ⟨S1024, .i1⟩
  | .hbm, ⟨30, _⟩ => ⟨S_, .i32⟩
  | .hbm, ⟨31, _⟩ => ⟨S1024, .i32⟩
  | .hbm, ⟨32, _⟩ => ⟨S1024, .i32⟩
  | .hbm, ⟨33, _⟩ => ⟨S1024, .i32⟩
  | .hbm, ⟨34, _⟩ => ⟨S1024x1, .i32⟩
  | .hbm, ⟨35, _⟩ => ⟨S1024, .i32⟩
  | .hbm, ⟨36, _⟩ => ⟨S_, .i32⟩
  | .hbm, ⟨37, _⟩ => ⟨S_, .i32⟩
  | .hbm, ⟨38, _⟩ => ⟨S1024, .i32⟩
  | .hbm, ⟨39, _⟩ => ⟨S1024, .i32⟩
  | .hbm, ⟨40, _⟩ => ⟨S1024, .i32⟩
  | .hbm, ⟨41, _⟩ => ⟨S_, .i32⟩
  | .hbm, ⟨42, _⟩ => ⟨S1024, .i32⟩
  | .hbm, ⟨43, _⟩ => ⟨S1024, .i1⟩
  | .hbm, ⟨44, _⟩ => ⟨S1024, .i32⟩
  | .hbm, ⟨45, _⟩ => ⟨S1024, .i32⟩
  | .hbm, ⟨46, _⟩ => ⟨S_, .i32⟩
  | .hbm, ⟨47, _⟩ => ⟨S1024, .i32⟩
  | .hbm, ⟨48, _⟩ => ⟨S1024, .i1⟩
  | .hbm, ⟨49, _⟩ => ⟨S1024, .i1⟩
  | .hbm, ⟨50, _⟩ => ⟨S_, .i32⟩
  | .hbm, ⟨51, _⟩ => ⟨S1024, .i32⟩
  | .hbm, ⟨52, _⟩ => ⟨S1024, .i32⟩
  | .hbm, ⟨53, _⟩ => ⟨S1024, .i32⟩
  | .hbm, ⟨54, _⟩ => ⟨S1x1024, .i32⟩
  | .hbm, ⟨55, _⟩ => ⟨S1024x1024, .i32⟩
  | .hbm, ⟨56, _⟩ => ⟨S1024x1024, .i32⟩
  | .hbm, ⟨57, _⟩ => ⟨S1024x1024, .i1⟩
  | .hbm, ⟨58, _⟩ => ⟨S2x4x1024x1024, .f32⟩
  | .hbm, ⟨59, _⟩ => ⟨S2x4x1024x1024, .bf16⟩
  | .hbm, ⟨60, _⟩ => ⟨S2x4x1024x1024, .f32⟩
  | .hbm, ⟨61, _⟩ => ⟨S_, .f32⟩
  | .hbm, ⟨62, _⟩ => ⟨S2x4x1024x1024, .f32⟩
  | .hbm, ⟨63, _⟩ => ⟨S2x4x1024x1024, .f32⟩
  | .hbm, ⟨64, _⟩ => ⟨S1x1x1024x1024, .i1⟩
  | .hbm, ⟨65, _⟩ => ⟨S_, .f32⟩
  | .hbm, ⟨66, _⟩ => ⟨S_, .f32⟩
  | .hbm, ⟨67, _⟩ => ⟨S2x4x1024x1024, .i1⟩
  | .hbm, ⟨68, _⟩ => ⟨S2x4x1024x1024, .f32⟩
  | .hbm, ⟨69, _⟩ => ⟨S2x4x1024x1024, .f32⟩
  | .hbm, ⟨70, _⟩ => ⟨S_, .f32⟩
  | .hbm, ⟨71, _⟩ => ⟨S2x4x1024, .f32⟩
  | .hbm, ⟨72, _⟩ => ⟨S2x4x1024x1, .f32⟩
  | .hbm, ⟨73, _⟩ => ⟨S2x4x1024x1024, .f32⟩
  | .hbm, ⟨74, _⟩ => ⟨S2x4x1024x1024, .f32⟩
  | .hbm, ⟨75, _⟩ => ⟨S2x4x1024x1024, .f32⟩
  | .hbm, ⟨76, _⟩ => ⟨S_, .i1⟩
  | .hbm, ⟨77, _⟩ => ⟨S1024, .i1⟩
  | .hbm, ⟨78, _⟩ => ⟨S1x1x1024x1, .i1⟩
  | .hbm, ⟨79, _⟩ => ⟨S_, .f32⟩
  | .hbm, ⟨80, _⟩ => ⟨S2x4x1024, .f32⟩
  | .hbm, ⟨81, _⟩ => ⟨S2x4x1024x1, .f32⟩
  | .hbm, ⟨82, _⟩ => ⟨S_, .f32⟩
  | .hbm, ⟨83, _⟩ => ⟨S_, .f32⟩
  | .hbm, ⟨84, _⟩ => ⟨S2x4x1024x1, .i1⟩
  | .hbm, ⟨85, _⟩ => ⟨S2x4x1024x1, .f32⟩
  | .hbm, ⟨86, _⟩ => ⟨S2x4x1024x1, .f32⟩
  | .hbm, ⟨87, _⟩ => ⟨S2x4x1024x1024, .f32⟩
  | .hbm, ⟨88, _⟩ => ⟨S2x4x1024x1024, .f32⟩
  | .hbm, ⟨89, _⟩ => ⟨S1x1x1024x1, .i1⟩
  | .hbm, ⟨90, _⟩ => ⟨S_, .f32⟩
  | .hbm, ⟨91, _⟩ => ⟨S_, .f32⟩
  | .hbm, ⟨92, _⟩ => ⟨S2x4x1024x1024, .i1⟩
  | .hbm, ⟨93, _⟩ => ⟨S2x4x1024x1024, .f32⟩
  | .hbm, ⟨94, _⟩ => ⟨S2x4x1024x1024, .f32⟩
  | .hbm, ⟨95, _⟩ => ⟨S2x4x64x1024, .f32⟩
  | .hbm, ⟨96, _⟩ => ⟨S2x1024x4x64, .f32⟩
  | .hbm, ⟨97, _⟩ => ⟨S2x1024x256, .f32⟩
  | .hbm, ⟨98, _⟩ => ⟨S256x512, .f32⟩
  | .hbm, ⟨99, _⟩ => ⟨S2x1024x512, .f32⟩
  | _, _ => ⟨S2x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_c_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_c : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_0 : Ref sig .tc := ⟨.hbm, 50, rfl⟩
abbrev main_call1_v12 : Ref sig .tc := ⟨.hbm, 51, rfl⟩
abbrev main_call1_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_cst : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_cst_1 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_v25 : Ref sig .tc := ⟨.hbm, 69, rfl⟩
abbrev main_cst_2 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_c_3 : Ref sig .tc := ⟨.hbm, 76, rfl⟩
abbrev main_v31 : Ref sig .tc := ⟨.hbm, 77, rfl⟩
abbrev main_v32 : Ref sig .tc := ⟨.hbm, 78, rfl⟩
abbrev main_cst_4 : Ref sig .tc := ⟨.hbm, 79, rfl⟩
abbrev main_v33 : Ref sig .tc := ⟨.hbm, 80, rfl⟩
abbrev main_v34 : Ref sig .tc := ⟨.hbm, 81, rfl⟩
abbrev main_cst_5 : Ref sig .tc := ⟨.hbm, 82, rfl⟩
abbrev main_call3_v0 : Ref sig .tc := ⟨.hbm, 83, rfl⟩
abbrev main_call3_v1 : Ref sig .tc := ⟨.hbm, 84, rfl⟩
abbrev main_call3_v2 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_cst_6 : Ref sig .tc := ⟨.hbm, 90, rfl⟩
abbrev main_call4_v0 : Ref sig .tc := ⟨.hbm, 91, rfl⟩
abbrev main_call4_v1 : Ref sig .tc := ⟨.hbm, 92, rfl⟩
abbrev main_call4_v2 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩

abbrev nD : Nat := 1
abbrev τ : Topo := Topo.v7x

variable {F : FTy → Type} [FloatOps F]
-- ==== Proof.Kern.Protocol.lean ====
/-
# The handshake of the sequence-sharded causal attention kernel

Four devices hold one block of the sequence each. Device `c` keeps a buffer of four slots for the keys and one for the
values; slot `o` is for device `o`'s block. Device `c` zeroes the slots above its own, stores its own block in slot `c`,
tells the three others that its buffers may be written, and sends its block to every device after it, into slot `c` there.

The semaphores of a device, numbered `0 … 15`:

| number   | semaphore              | paid by                                   | waited for by | what comes with it                       |
|----------|------------------------|-------------------------------------------|---------------|------------------------------------------|
| `0`      | the barrier            | each other device `d`, one unit           | the device    | slot `c` of both buffers of `d`, `c < d` |
| `1`      | the closing handshake  | each other device, one unit               | the device    | nothing                                  |
| `2 … 4`  | key send `j`           | the device's own transfer to `c + j + 1`  | the device    | the share of slot `c` lent to it         |
| `5 … 7`  | value send `j`         | the same for the values                   | the device    | the same                                 |
| `8 … 11` | key receive `o`        | device `o`'s transfer, `o < c`            | the device    | slot `o` holding device `o`'s keys       |
| `12 … 15`| value receive `o`      | the same for the values                   | the device    | the same                                 |

Every semaphore has one round; the duty of a round is named by the device that pays it. A send or receive that does not
happen (`c + j + 1` past the last device, `o` not below `c`) has no duty, and its cell closes unused.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The resources: the pipeline library's rounds and the kernel's (duties named by devices) -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore at zero. -/
def s₀ : MemSt nD τ sig (Elt F) := ⟨m, fun _ => 0, ρ⟩

/-! ## Devices, buffers, semaphores -/

/-- The device `d` places after `c`, cyclically. -/
def rot (c : Dev nD) (d : ℕ) : Dev nD := ⟨(c.val + d) % 4, Nat.mod_lt _ (by decide)⟩

abbrev kM : Memref sig .tc .vmem S4x2x256x256 .bf16 := Memref.whole cc0_scratch0
abbrev vM : Memref sig .tc .vmem S4x2x256x256 .bf16 := Memref.whole cc0_scratch1

/-- The runtime's barrier semaphore, and the one of the closing handshake. -/
abbrev barS : Sem sig := (SemArray.scalar (sig.barrier 0 rfl) : Sems sig S_).sem
abbrev endS : Sem sig := (cc0_scoped0 : Sems sig S_).sem

/-- The sixteen semaphores of a device, in the numbering of the table above. -/
def csem : Fin 16 → SemLoc sig
  | 0 => .reg barS
  | 1 => .reg endS
  | ⟨n + 2, h⟩ => .dma (⟨n + 6, by omega⟩ : Fin 20)

/-- The number of a semaphore, if it is one of the sixteen. -/
def idx (s : SemLoc sig) : Option (Fin 16) := (List.finRange 16).find? fun k => decide (csem k = s)

theorem idx_csem (k : Fin 16) : idx (csem k) = some k := by revert k; decide
theorem csem_inj {k k' : Fin 16} (h : csem k = csem k') : k = k' :=
  Option.some.inj ((idx_csem k).symm.trans ((congrArg idx h).trans (idx_csem k')))

/-- The cell of semaphore `k` of device `c`. -/
abbrev kcell (ck : Dev nD × Fin 16) : GSem nD τ sig := ((ck.1 : Thread nD τ), csem ck.2)

theorem kcell_injective : Function.Injective (kcell : Dev nD × Fin 16 → GSem nD τ sig) := by
  rintro ⟨c, k⟩ ⟨c', k'⟩ h
  have h1 : c = c' := congrArg (fun g : GSem nD τ sig => g.1.1) h
  subst h1
  exact congrArg (Prod.mk c) (csem_inj (congrArg Prod.snd h : csem k = csem k'))

/-- The send semaphore `j` of the keys (`b = false`) or the values (`b = true`), and the receive semaphore of slot `o`. -/
def sx (b : Bool) (j : Fin 3) : Fin 16 := ⟨2 + 3 * b.toNat + j.val, by cases b <;> simp <;> omega⟩
def rx (b : Bool) (o : Dev nD) : Fin 16 := ⟨8 + 4 * b.toNat + o.val, by have : o.val < 4 := o.isLt; cases b <;> simp <;> omega⟩

/-! ## Slots -/

/-- The indices of slot `o`. -/
def slotSet (o : Dev nD) : Finset S4x2x256x256.Idx := Finset.univ.filter fun i => (i 0).val = o.val

theorem mem_slotSet {o : Dev nD} {i : S4x2x256x256.Idx} : i ∈ slotSet o ↔ (i 0).val = o.val := by simp [slotSet]

/-- Slot `o` of the key or value buffer of device `c`, held at share `q` with contents `f`. -/
def pts (b : Bool) (c o : Dev nD) (q : PosShare TreeShare) (f : S4x2x256x256.Idx → Elt F .bf16) : sProp 𝕄 :=
  match b with
  | false => ((c : Thread nD τ).loc cc0_scratch0) ↦[slotSet o]{q} f
  | true => ((c : Thread nD τ).loc cc0_scratch1) ↦[slotSet o]{q} f

/-- The whole key or value buffer of device `c`. -/
def whole (b : Bool) (c : Dev nD) (f : S4x2x256x256.Idx → Elt F .bf16) : sProp 𝕄 :=
  match b with
  | false => ((c : Thread nD τ).loc cc0_scratch0) ↦{fullShare} f
  | true => ((c : Thread nD τ).loc cc0_scratch1) ↦{fullShare} f

instance pts_storable (b : Bool) (c o : Dev nD) (q) (f) : BI.Storable (upEmb : UEmb _ 𝕄) (pts (F := F) b c o q f) := by
  cases b <;> unfold pts <;> infer_instance

theorem pts_congr (b : Bool) (c o : Dev nD) (q) {f g : S4x2x256x256.Idx → Elt F .bf16} (h : ∀ i, (i 0).val = o.val → f i = g i) :
    pts (F := F) b c o q f = pts b c o q g := by
  cases b
  · exact pointsTo_congr fun i hi => h i (mem_slotSet.1 hi)
  · exact pointsTo_congr fun i hi => h i (mem_slotSet.1 hi)

/-- The whole buffer is its four slots. -/
theorem whole_split (b : Bool) (c : Dev nD) (f : S4x2x256x256.Idx → Elt F .bf16) :
    whole b c f = (bigSep Finset.univ fun o : Dev nD => pts b c o fullShare f : sProp 𝕄) := by
  have hU : (Finset.univ : Finset S4x2x256x256.Idx) = Finset.univ.biUnion slotSet := by
    ext i
    simp only [Finset.mem_univ, Finset.mem_biUnion, true_and, true_iff]
    exact ⟨⟨(i 0).val, (i 0).isLt⟩, mem_slotSet.2 rfl⟩
  have hD : ∀ a ∈ (Finset.univ : Finset (Dev nD)), ∀ a' ∈ (Finset.univ : Finset (Dev nD)), a ≠ a' → Disjoint (slotSet a) (slotSet a') := by
    intro a _ a' _ hne
    rw [Finset.disjoint_left]
    intro i hi hi'
    exact hne (Fin.ext ((mem_slotSet.1 hi).symm.trans (mem_slotSet.1 hi')))
  cases b
  · show (((c : Thread nD τ).loc cc0_scratch0) ↦[Finset.univ]{fullShare} f : sProp 𝕄) = _
    rw [hU]; exact pointsTo_biUnion _ _ hD
  · show (((c : Thread nD τ).loc cc0_scratch1) ↦[Finset.univ]{fullShare} f : sProp 𝕄) = _
    rw [hU]; exact pointsTo_biUnion _ _ hD

/-- Four quarters of the full share: the first stays with the device, the others are lent to its three transfers. -/
def shr : Fin 4 → PosShare TreeShare
  | 0 => fullShare.left.left
  | 1 => fullShare.left.right
  | 2 => fullShare.right.left
  | 3 => fullShare.right.right

theorem pts_share {b : Bool} {c o : Dev nD} {f : S4x2x256x256.Idx → Elt F .bf16} (q : PosShare TreeShare) :
    (pts b c o q f : sProp 𝕄) ⊣⊢ iprop(pts b c o q.left f ∗ pts b c o q.right f) := by
  cases b
  · exact pointsTo_share (PosShare.mem_left_op_right q)
  · exact pointsTo_share (PosShare.mem_left_op_right q)

theorem pts_quarters (b : Bool) (c o : Dev nD) (f : S4x2x256x256.Idx → Elt F .bf16) :
    (pts b c o fullShare f : sProp 𝕄) ⊣⊢ iprop((pts b c o (shr 0) f ∗ pts b c o (shr 1) f) ∗ pts b c o (shr 2) f ∗ pts b c o (shr 3) f) :=
  ⟨(pts_share fullShare).1.trans (BI.sep_mono (pts_share _).1 (pts_share _).1),
   (BI.sep_mono (pts_share _).2 (pts_share _).2).trans (pts_share fullShare).2⟩

/-! ## Contents -/

/-- The key and value blocks a device starts from. -/
def kstg (c : Dev nD) : S2x256x256.Idx → Elt F .bf16 :=
  (win0_2.blk (0 : Fin 1)).view.read (Elt F) ((s₀ m ρ).mem ((c : Thread nD τ).loc main_arg2))
def vstg (c : Dev nD) : S2x256x256.Idx → Elt F .bf16 :=
  (win0_3.blk (0 : Fin 1)).view.read (Elt F) ((s₀ m ρ).mem ((c : Thread nD τ).loc main_arg3))

/-- The block of device `c`: its keys (`false`) or its values (`true`). -/
def blkOf (b : Bool) (c : Dev nD) : S2x256x256.Idx → Elt F .bf16 :=
  match b with
  | false => kstg m ρ c
  | true => vstg m ρ c

/-- The place in a block of an index of the four-slot buffer. -/
def inBlk (i : S4x2x256x256.Idx) : S2x256x256.Idx := fun
  | 0 => i 1
  | 1 => i 2
  | 2 => i 3

/-- What the buffer of device `c` holds at the end: the blocks of the devices up to `c`, zeroes above. -/
def filled (b : Bool) (c : Dev nD) : S4x2x256x256.Idx → Elt F .bf16 := fun i =>
  if (i 0).val ≤ c.val then blkOf m ρ b ⟨(i 0).val, (i 0).isLt⟩ (inBlk i) else Scalar.ofBits (F := F) .bf16 0x0000#16

theorem filled_slot (b : Bool) {c c' : Dev nD} (o : Dev nD) (h : o.val ≤ c.val) (h' : o.val ≤ c'.val) (i : S4x2x256x256.Idx) (hi : (i 0).val = o.val) :
    filled m ρ b c i = filled m ρ b c' i := by
  unfold filled; rw [if_pos (hi ▸ h), if_pos (hi ▸ h')]

/-! ## The schedule -/

/-- The credit of one transfer: a slot's. -/
abbrev slotM (M : Memref sig .tc .vmem S4x2x256x256 .bf16) (off : Fin 4 → ℕ) (inb : ∀ a, off a + S1x2x256x256.size a ≤ S4x2x256x256.size a) :
    Memref sig .tc .vmem S2x256x256 .bf16 :=
  (M.slice (Rect.unit (s := S4x2x256x256) off S1x2x256x256.size inb) (fun _ => rfl)).squeeze S2x256x256 squeezes_S1x2x256x256_S2x256x256

theorem inb0 : ∀ a, (![0, 0, 0, 0] : Fin 4 → ℕ) a + S1x2x256x256.size a ≤ S4x2x256x256.size a := by decide

def N : ℕ := (slotM kM ![0, 0, 0, 0] inb0).view.dmaCredit
theorem N_pos : 0 < N := View.dmaCredit_pos _ (by decide)

/-- What device `d`'s barrier signal hands device `c`: slot `c` of both of `d`'s buffers, if `c` will send to `d`. -/
def give (d c : Dev nD) : sProp 𝕄 :=
  if c.val < d.val then iprop((∃ f, pts false d c fullShare f) ∗ (∃ f, pts true d c fullShare f)) else iprop(emp)

instance give_storable (d c : Dev nD) : BI.Storable (upEmb : UEmb _ 𝕄) (give (F := F) d c) := by
  unfold give; split <;> infer_instance

/-- The duties of cell `k` of device `c`, named by the paying device. -/
def dutK (c : Dev nD) (k : Fin 16) : Finset (Dev nD) :=
  if k.val < 2 then Finset.univ.erase c
  else if k.val < 8 then (if c.val + (k.val - 2) % 3 + 1 < 4 then {c} else ∅)
  else Finset.univ.filter fun d => d.val = k.val % 4 ∧ d.val < c.val

/-- What paying it hands over. -/
def payK (c : Dev nD) (k : Fin 16) (d : Dev nD) : sProp 𝕄 :=
  if k.val = 0 then give d c
  else if k.val = 1 then iprop(emp)
  else if k.val < 8 then
    pts (decide (5 ≤ k.val)) c c (shr ⟨(k.val - 2) % 3 + 1, by omega⟩) (filled m ρ (decide (5 ≤ k.val)) c)
  else pts (decide (12 ≤ k.val)) c d fullShare (filled m ρ (decide (12 ≤ k.val)) c)

instance payK_storable (c : Dev nD) (k : Fin 16) (d : Dev nD) : BI.Storable (upEmb : UEmb _ 𝕄) (payK (F := F) m ρ c k d) := by
  unfold payK; (repeat' split) <;> infer_instance

/-- One round, round 0, of each of the sixteen cells of a device. -/
def sched : Rounds.Schedule (GSem nD τ sig) (Dev nD) 𝕄 where
  duties g r := if r = 0 ∧ g.1.2 = .tc then (match idx g.2 with | some k => dutK g.1.1 k | none => ∅) else ∅
  unitless _ := False
  amount g _ _ := match idx g.2 with | some k => if k.val < 2 then 1 else N | none => 1
  payload g _ d := match idx g.2 with | some k => payK m ρ g.1.1 k d | none => iprop(emp)
  amount_pos g _ _ _ := by
    show 0 < (match idx g.2 with | some k => if k.val < 2 then 1 else N | none => 1)
    split
    · split
      · exact Nat.one_pos
      · exact N_pos
    · exact Nat.one_pos

instance sched_payload_storable (g : GSem nD τ sig) (r : ℕ) (d : Dev nD) :
    BI.Storable (upEmb : UEmb _ 𝕄) ((sched (F := F) m ρ).payload g r d) := by
  show BI.Storable upEmb (match idx g.2 with | some k => payK m ρ g.1.1 k d | none => iprop(emp))
  split <;> infer_instance

section Sched
variable (c : Dev nD) (k : Fin 16)

theorem duties_cell : (sched (F := F) m ρ).duties (kcell (c, k)) 0 = dutK c k := by
  dsimp only [sched]; rw [if_pos ⟨rfl, rfl⟩, idx_csem]
theorem duties_later (g : GSem nD τ sig) : ∀ r, 1 ≤ r → (sched (F := F) m ρ).duties g r = ∅ :=
  fun r hr => by dsimp only [sched]; rw [if_neg fun h => by omega]
theorem duties_none (h : dutK c k = ∅) : ∀ r, 0 ≤ r → (sched (F := F) m ρ).duties (kcell (c, k)) r = ∅ := by
  intro r _
  rcases r with _ | r
  · rw [duties_cell, h]
  · exact duties_later m ρ _ _ (by omega)
theorem amount_cell (r : ℕ) (d : Dev nD) : (sched (F := F) m ρ).amount (kcell (c, k)) r d = if k.val < 2 then 1 else N := by
  dsimp only [sched]; rw [idx_csem]
theorem payload_cell (r : ℕ) (d : Dev nD) : (sched (F := F) m ρ).payload (kcell (c, k)) r d = payK m ρ c k d := by
  dsimp only [sched]; rw [idx_csem]
theorem expect_cell : (sched (F := F) m ρ).expect (kcell (c, k)) 0 = (dutK c k).card * (if k.val < 2 then 1 else N) := by
  unfold Schedule.expect Schedule.amountOf
  rw [duties_cell, Finset.sum_congr rfl fun d _ => amount_cell m ρ c k 0 d, Finset.sum_const, smul_eq_mul]
theorem rest_cell : bigSep ((sched (F := F) m ρ).duties (kcell (c, k)) 0 \ ∅) (fun d => (sched (F := F) m ρ).payload (kcell (c, k)) 0 d)
    = bigSep (dutK c k) (fun d => payK m ρ c k d) := by
  rw [Finset.sdiff_empty, duties_cell]
  exact bigSep_congr fun d _ => payload_cell m ρ c k 0 d

end Sched

/-! The duties and payloads by kind. -/

theorem dutK_sx (c : Dev nD) (b : Bool) (j : Fin 3) : dutK c (sx b j) = if c.val + j.val + 1 < 4 then {c} else ∅ := by
  revert c b j; decide
theorem dutK_rx (c : Dev nD) (b : Bool) (o : Dev nD) : dutK c (rx b o) = if o.val < c.val then {o} else ∅ := by
  revert c b o; decide
theorem card_bar (c : Dev nD) : (dutK c 0).card = 3 ∧ (dutK c 1).card = 3 := by revert c; decide
theorem mem_bar (c : Dev nD) (d : ℕ) (h : 1 ≤ d ∧ d < 4) : c ∈ dutK (rot c d) 0 ∧ c ∈ dutK (rot c d) 1 := by
  obtain ⟨h1, h2⟩ := h
  interval_cases d <;> (revert c; decide)

theorem sx_big (b : Bool) (j : Fin 3) : ¬ (sx b j).val < 2 := by revert b j; decide
theorem rx_big (b : Bool) (o : Dev nD) : ¬ (rx b o).val < 2 := by revert b o; decide

theorem payK_sx (c : Dev nD) (b : Bool) (j : Fin 3) (d : Dev nD) : payK m ρ c (sx b j) d = pts b c c (shr j.succ) (filled m ρ b c) := by
  cases b <;> fin_cases j <;> rfl
theorem payK_rx (c : Dev nD) (b : Bool) (o d : Dev nD) : payK m ρ c (rx b o) d = pts b c d fullShare (filled m ρ b c) := by
  cases b <;> fin_cases o <;> rfl
theorem payK_bar (c d : Dev nD) : payK m ρ c 0 d = give d c := rfl
theorem payK_end (c d : Dev nD) : payK m ρ c 1 d = iprop(emp) := rfl

/-- The barrier cell's three payloads. -/
theorem rest_bar (c : Dev nD) : bigSep (dutK c 0) (fun d => payK m ρ c 0 d) = iprop(give (rot c 1) c ∗ give (rot c 2) c ∗ give (rot c 3) c) := by
  rw [bigSep_eq_bigSepL_of_eq [rot c 1, rot c 2, rot c 3] (by revert c; decide) (by revert c; decide), bigSepL_cons_cons, bigSepL_cons_cons, bigSepL_singleton]
  rfl

/-! ## What a device owes; the levels -/

/-- The credit of the transfer to the device `d` places on, if there is one. -/
def lane (c : Dev nD) (d : ℕ) (b : Bool) : CellTallies nD τ sig Unit :=
  if c.val + d < 4 then tallyAt (kcell (rot c d, rx b c)) () N else 0

/-- After its transfers a device owes the closing signals; before them also the transfers; at first also the barrier signals. -/
def oweEnd1 (c : Dev nD) : CellTallies nD τ sig Unit := tallyAt (kcell (rot c 3, 1)) () 1
def oweEnd2 (c : Dev nD) : CellTallies nD τ sig Unit := oweEnd1 c + tallyAt (kcell (rot c 2, 1)) () 1
def oweEnd (c : Dev nD) : CellTallies nD τ sig Unit := oweEnd2 c + tallyAt (kcell (rot c 1, 1)) () 1
def oweLane3 (c : Dev nD) : CellTallies nD τ sig Unit := oweEnd c + lane c 3 true + lane c 3 false
def oweLane2 (c : Dev nD) : CellTallies nD τ sig Unit := oweLane3 c + lane c 2 true + lane c 2 false
def oweLane (c : Dev nD) : CellTallies nD τ sig Unit := oweLane2 c + lane c 1 true + lane c 1 false
def oweBar1 (c : Dev nD) : CellTallies nD τ sig Unit := oweLane c + tallyAt (kcell (rot c 3, 0)) () 1
def oweBar2 (c : Dev nD) : CellTallies nD τ sig Unit := oweBar1 c + tallyAt (kcell (rot c 2, 0)) () 1
def O₀ (c : Dev nD) : CellTallies nD τ sig Unit := oweBar2 c + tallyAt (kcell (rot c 1, 0)) () 1

def L (g : GSem nD τ sig) : Finset Unit := if g.1.2 = .tc then {()} else ∅
/-- The level of a semaphore: the barrier below the receives, these below the closing handshake, all others at the bottom. -/
def lvK (k : Fin 16) : ℕ := if k.val = 0 then 1 else if k.val = 1 then 3 else if k.val < 8 then 0 else 2
def lv (g : GSem nD τ sig) (_ : Unit) : ℕ := match idx g.2 with | some k => lvK k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (ck : Dev nD × Fin 16) (u : Unit) : lv (kcell ck) u = lvK ck.2 := by unfold lv; rw [idx_csem]

/-- Every cell owed lies above level `n`. -/
def Above (n : ℕ) (O : CellTallies nD τ sig Unit) : Prop := ∀ g u, 0 < O g u → u ∈ L g ∧ n < lv g u

theorem Above.zero (n : ℕ) : Above n 0 := fun g u h => absurd h (Nat.lt_irrefl 0)
theorem Above.add {n : ℕ} {O O' : CellTallies nD τ sig Unit} (h : Above n O) (h' : Above n O') : Above n (O + O') := fun g u hp => by
  rw [Pi.add_apply, Finsupp.add_apply] at hp
  rcases Nat.eq_zero_or_pos (O g u) with h0 | h0
  · exact h' g u (by omega)
  · exact h g u h0
theorem Above.tally {n : ℕ} (ck : Dev nD × Fin 16) (a : ℕ) (h : n < lvK ck.2) : Above n (tallyAt (kcell ck) () a) := fun g u hp => by
  rw [tallyAt_apply] at hp
  by_cases e : g = kcell ck ∧ u = ()
  · rw [e.1]
    exact ⟨by rw [L_tc]; exact Finset.mem_singleton_self _, by rw [lv_cell]; exact h⟩
  · rw [if_neg e] at hp; exact absurd hp (Nat.lt_irrefl 0)
theorem lvK_rx (b : Bool) (o : Dev nD) : lvK (rx b o) = 2 := by revert b o; decide
theorem lvK_sx (b : Bool) (j : Fin 3) : lvK (sx b j) = 0 := by revert b j; decide
theorem Above.lane {n : ℕ} (h : n < 2) (c : Dev nD) (d : ℕ) (b : Bool) : Above n (lane c d b) := by
  unfold Attn.lane
  split
  · exact Above.tally _ _ (by rw [lvK_rx]; exact h)
  · exact Above.zero n

theorem above_end {n : ℕ} (h : n < 3) (c : Dev nD) : Above n (oweEnd c) :=
  ((Above.tally _ _ h).add (Above.tally _ _ h)).add (Above.tally _ _ h)
theorem above_lane {n : ℕ} (h : n < 2) (c : Dev nD) : Above n (oweLane c) :=
  (((((((above_end (by omega) c).add (Above.lane h c 3 true)).add (Above.lane h c 3 false)).add (Above.lane h c 2 true)).add
    (Above.lane h c 2 false)).add (Above.lane h c 1 true)).add (Above.lane h c 1 false))
theorem above_O₀ (c : Dev nD) : Above 0 (O₀ c) :=
  (((above_lane (by omega) c).add (Above.tally _ _ (show 0 < lvK 0 by decide))).add (Above.tally _ _ (show 0 < lvK 0 by decide))).add (Above.tally _ _ (show 0 < lvK 0 by decide))

/-- A device may wait on a semaphore when everything it owes lies above it. -/
theorem mayWait {n : ℕ} (c : Dev nD) (sm : SemLoc sig) (O : CellTallies nD τ sig Unit) (hO : Above n O) (hn : lv ((c : Thread nD τ), sm) () ≤ n) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (hO g u hg).1)
    (fun p hp => by rw [Finset.mem_singleton.mp hp]; exact hn)
    (fun g u hg => (hO g u hg).2)

end Cert.Attn

end
-- ==== Proof.Kern.Steps.lean ====
/-
# The single steps of the kernel's handshake

One lemma per kind of step a device makes: a signal, a transfer of its block, a wait on a send or receive semaphore, a
load from a slot. Each is stated for any device, either buffer, and any number of the transfer or slot.
-/
module

public import proofs.«01_k».proof.Proof.Kern.Protocol

@[expose] public section

set_option maxRecDepth 16384

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

abbrev 𝒱₀ : Variants := Variants.none

/-- A device's program followed to its end. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem run_ret (c : Dev nD) {α : Type} (a : α) (Q : α → sProp 𝕄) : Q a ⊢ run c (.ret a) Q := by
  unfold run; rw [wp_ret]
  iintro H; imodintro; iexact H

/-! ## The records: every cell's invariant, and that its round 0 is reached -/

def records (K : Dev nD × Fin 16 → ℕ) : sProp 𝕄 :=
  iprop((bigSep Finset.univ fun ck : Dev nD × Fin 16 => cellInv ER (sched m ρ) (K ck) (kcell ck))
    ∗ bigSep Finset.univ fun ck : Dev nD × Fin 16 => reached ER (kcell ck) 0)

instance records_persistent (K : Dev nD × Fin 16 → ℕ) : BI.Persistent (records m ρ K) := by unfold records; infer_instance

theorem inv_at (K : Dev nD × Fin 16 → ℕ) (ck : Dev nD × Fin 16) :
    (bigSep Finset.univ fun ck : Dev nD × Fin 16 => (cellInv ER (sched m ρ) (K ck) (kcell ck) : sProp 𝕄)) ⊢ cellInv ER (sched m ρ) (K ck) (kcell ck) :=
  bigSep_elim (Finset.mem_univ ck)
theorem reached_at (ck : Dev nD × Fin 16) :
    (bigSep Finset.univ fun ck : Dev nD × Fin 16 => (reached ER (kcell ck) 0 : sProp 𝕄)) ⊢ reached ER (kcell ck) 0 :=
  bigSep_elim (Finset.mem_univ ck)

theorem records_inv (K : Dev nD × Fin 16 → ℕ) (ck : Dev nD × Fin 16) : records m ρ K ⊢ cellInv ER (sched m ρ) (K ck) (kcell ck) := by
  unfold records
  iintro ⟨H, -⟩
  iapply (inv_at m ρ K ck); iexact H

theorem records_reached (K : Dev nD × Fin 16 → ℕ) (ck : Dev nD × Fin 16) : records m ρ K ⊢ reached ER (kcell ck) 0 := by
  unfold records
  iintro ⟨-, H⟩
  iapply (reached_at (F := F) ck); iexact H

/-! ## The views of a slot -/

/-- The key buffer or the value buffer. -/
abbrev bufM (b : Bool) : Memref sig .tc .vmem S4x2x256x256 .bf16 :=
  match b with
  | false => kM
  | true => vM

theorem slot_rect_set (o : Dev nD) (inb : ∀ a, (![o.val, 0, 0, 0] : Fin 4 → ℕ) a + S1x2x256x256.size a ≤ S4x2x256x256.size a) :
    (Rect.unit (s := S4x2x256x256) ![o.val, 0, 0, 0] S1x2x256x256.size inb).set = slotSet o := by
  ext i
  have h1 : (i 1).val < 2 := (i 1).isLt
  have h2 : (i 2).val < 256 := (i 2).isLt
  have h3 : (i 3).val < 256 := (i 3).isLt
  rw [mem_slotSet, Rect.mem_set_unit]
  constructor
  · intro h
    have h0 := h 0
    have e1 : (![o.val, 0, 0, 0] : Fin 4 → ℕ) 0 = o.val := rfl
    have e2 : S1x2x256x256.size 0 = 1 := rfl
    rw [e1, e2] at h0
    omega
  · intro h a
    fin_cases a
    · show o.val ≤ (i 0).val ∧ (i 0).val < o.val + 1
      omega
    · show 0 ≤ (i 1).val ∧ (i 1).val < 0 + 2
      omega
    · show 0 ≤ (i 2).val ∧ (i 2).val < 0 + 256
      omega
    · show 0 ≤ (i 3).val ∧ (i 3).val < 0 + 256
      omega

theorem slot_set (b : Bool) (o : Dev nD) (inb : ∀ a, (![o.val, 0, 0, 0] : Fin 4 → ℕ) a + S1x2x256x256.size a ≤ S4x2x256x256.size a) :
    HEq (slotM (bufM b) ![o.val, 0, 0, 0] inb).view.set (slotSet o) := by
  cases b
  · exact heq_of_eq (((Memref.set_view_squeeze _ _).trans (View.set_slice_whole _ _)).trans (slot_rect_set o inb))
  · exact heq_of_eq (((Memref.set_view_squeeze _ _).trans (View.set_slice_whole _ _)).trans (slot_rect_set o inb))

theorem view_k (c o : Dev nD) (q : PosShare TreeShare) (inb) (f : S4x2x256x256.Idx → Elt F .bf16) :
    (((slotM kM ![o.val, 0, 0, 0] inb).view.loc (c : Thread nD τ) ↦[(slotM kM ![o.val, 0, 0, 0] inb).view.set]{q} f) : sProp 𝕄)
      = pts false c o q f := by
  have h : (slotM kM ![o.val, 0, 0, 0] inb).view.set = slotSet o := eq_of_heq (slot_set false o inb)
  rw [h]; rfl
theorem view_v (c o : Dev nD) (q : PosShare TreeShare) (inb) (f : S4x2x256x256.Idx → Elt F .bf16) :
    (((slotM vM ![o.val, 0, 0, 0] inb).view.loc (c : Thread nD τ) ↦[(slotM vM ![o.val, 0, 0, 0] inb).view.set]{q} f) : sProp 𝕄)
      = pts true c o q f := by
  have h : (slotM vM ![o.val, 0, 0, 0] inb).view.set = slotSet o := eq_of_heq (slot_set true o inb)
  rw [h]; rfl

/-- Every slot's transfer has the same credit. -/
theorem credit_k (off : Fin 4 → ℕ) (inb) : (slotM kM off inb).view.dmaCredit = N := rfl
theorem credit_v (off : Fin 4 → ℕ) (inb) : (slotM vM off inb).view.dmaCredit = N := rfl

/-- A slot written with what another buffer's same slot holds. -/
theorem landed_k (o : Dev nD) (inb) (fd fs : S4x2x256x256.Idx → Elt F .bf16) (i : S4x2x256x256.Idx) (hi : (i 0).val = o.val) :
    (slotM kM ![o.val, 0, 0, 0] inb).view.write (Elt F) fd ((slotM kM ![o.val, 0, 0, 0] inb).view.read (Elt F) fs) Finset.univ i = fs i := by
  have h : (slotM kM ![o.val, 0, 0, 0] inb).view.set = slotSet o := eq_of_heq (slot_set false o inb)
  rw [View.write_read_eq_piecewise]
  exact Finset.piecewise_eq_of_mem _ _ _ (by rw [View.setOn_univ, h]; exact mem_slotSet.2 hi)
theorem landed_v (o : Dev nD) (inb) (fd fs : S4x2x256x256.Idx → Elt F .bf16) (i : S4x2x256x256.Idx) (hi : (i 0).val = o.val) :
    (slotM vM ![o.val, 0, 0, 0] inb).view.write (Elt F) fd ((slotM vM ![o.val, 0, 0, 0] inb).view.read (Elt F) fs) Finset.univ i = fs i := by
  have h : (slotM vM ![o.val, 0, 0, 0] inb).view.set = slotSet o := eq_of_heq (slot_set true o inb)
  rw [View.write_read_eq_piecewise]
  exact Finset.piecewise_eq_of_mem _ _ _ (by rw [View.setOn_univ, h]; exact mem_slotSet.2 hi)

/-! ## A transfer -/

variable (K : Dev nD × Fin 16 → ℕ)

section Send

variable (c n : Dev nD) (j : Fin 3) (hj : c.val + j.val + 1 < 4) (hn : n = rot c (j.val + 1))

include hj hn in
theorem lt_of_send : c.val < n.val := by
  have hc : c.val < 4 := c.isLt
  rw [hn]; show c.val < (c.val + (j.val + 1)) % 4
  rw [Nat.mod_eq_of_lt (by omega)]; omega

variable {off : Fin 4 → ℕ} {inb : ∀ a, off a + S1x2x256x256.size a ≤ S4x2x256x256.size a} {s1 s2 : DmaSem sig}
  (hoff : off = ![c.val, 0, 0, 0])
  (O : CellTallies nD τ sig Unit) (W : Waits sig Unit)

include hj hn hoff

/-- A device sends its keys or values to device `n`: it lends the transfer a share of its slot, gives `n`'s slot, and owes one
    transfer less. -/
theorem send (b : Bool) {α : Type} {Q : α → sProp 𝕄} {k : PUnit → Prog (TpuEff nD τ sig (Elt F) Λ₀ .tc) α}
    (h1 : SemLoc.dma s1 = csem (sx b j)) (h2 : SemLoc.dma s2 = csem (rx b c))
    {hsc : (slotM (bufM b) off inb : Memref sig (Dev.tc n : Thread nD τ).2.kind .vmem S2x256x256 .bf16).view.ref.isScScratch = false}
    {hsrc : (slotM (bufM b) off inb).view.WordExact} {hdst : (slotM (bufM b) off inb).view.WordExact}
    {hsem : DmaTarget.Typed .vmem (.dma s2) (.remote (Dev.tc n : Thread nD τ) (slotM (bufM b) off inb : Memref sig .tc .vmem S2x256x256 .bf16) (.dma s1) hsc)} :
    iprop(records m ρ K ∗ pts b c c (shr j.succ) (filled m ρ b c) ∗ (∃ f, pts b n c fullShare f)
        ∗ owes (c : Thread nD τ) (O + tallyAt (kcell (n, rx b c)) () N) W
        ∗ dutyTok ER (kcell (c, sx b j)) 0 c ∗ dutyTok ER (kcell (n, rx b c)) 0 c)
      ⊢ iprop(((cred (tallyAt (kcell (c, sx b j)) () N) ∗ owes (c : Thread nD τ) O W) -∗ run c (k ⟨⟩) Q)
          -∗ run c (.op (.enqueueDma (slotM (bufM b) off inb) (.remote (Dev.tc n : Thread nD τ) (slotM (bufM b) off inb) (.dma s1) hsc) (.dma s2) hsrc hdst hsem) k) Q) := by
  have hlt := lt_of_send c n j hj hn
  subst hoff
  have e1 : ((c : Thread nD τ), SemLoc.dma s1) = kcell (c, sx b j) := by rw [h1]
  have e2 : ((n : Thread nD τ), SemLoc.dma s2) = kcell (n, rx b c) := by rw [h2]
  iintro ⟨#HR, Hs, ⟨%fd, Hd⟩, HO, Ht1, Ht2⟩
  have d1 : c ∈ (sched m ρ).duties ((c : Thread nD τ), SemLoc.dma s1) 0 := by
    rw [e1, duties_cell, dutK_sx, if_pos hj]; exact Finset.mem_singleton_self _
  have d2 : c ∈ (sched m ρ).duties ((n : Thread nD τ), SemLoc.dma s2) 0 := by
    rw [e2, duties_cell, dutK_rx, if_pos hlt]; exact Finset.mem_singleton_self _
  have a1 : (sched m ρ).amount ((c : Thread nD τ), SemLoc.dma s1) 0 c = N := by rw [e1, amount_cell, if_neg (sx_big _ _)]
  have a2 : (sched m ρ).amount ((n : Thread nD τ), SemLoc.dma s2) 0 c = N := by rw [e2, amount_cell, if_neg (rx_big _ _)]
  have p1 : (sched m ρ).payload ((c : Thread nD τ), SemLoc.dma s1) 0 c = pts b c c (shr j.succ) (filled m ρ b c) := by
    rw [e1, payload_cell, payK_sx]
  have p2 : (sched m ρ).payload ((n : Thread nD τ), SemLoc.dma s2) 0 c = pts b n c fullShare (filled m ρ b c) := by
    rw [e2, payload_cell, payK_rx]; exact pts_congr _ _ _ _ fun i hi => filled_slot m ρ _ c hlt.le le_rfl i hi
  obtain ⟨κ₁, hκ₁⟩ : ∃ κ, κ = K (c, sx b j) := ⟨_, rfl⟩
  obtain ⟨κ₂, hκ₂⟩ : ∃ κ, κ = K (n, rx b c) := ⟨_, rfl⟩
  obtain ⟨fs, hfs⟩ : ∃ f, f = filled m ρ b c := ⟨_, rfl⟩
  rw [← hfs] at p1 p2 ⊢
  cases b
  all_goals
    have hw := Rounds.wp_send_pointsTo (src := slotM _ ![c.val, 0, 0, 0] inb) (dst := slotM _ ![c.val, 0, 0, 0] inb) (c' := (n : Thread nD τ))
      (hsc := hsc) (sS := .dma s1) (sem := .dma s2) (hsrc := hsrc) (hdst := hdst) (hsem := hsem) (k := k) (Q := Q) (defs := defs₀ (F := F)) (Γ := .empty)
      𝒱₀ ER (sched m ρ) (c : Thread nD τ) none (κ₁ := κ₁) (κ₂ := κ₂)
      (r₁ := 0) (r₂ := 0) (d₁ := c) (d₂ := c) (q := shr j.succ) (fs := fs) (fd := fd) (Es := Set.univ)
      d1 d2 () () N rfl a1 a2 O rfl (W := W)
      (by rw [p1]; first | rw [view_k] | rw [view_v])
      (by
        rw [p2]
        first
          | rw [view_k]; exact Entails.of_eq (pts_congr _ _ _ _ fun i hi => landed_k c inb _ _ i hi)
          | rw [view_v]; exact Entails.of_eq (pts_congr _ _ _ _ fun i hi => landed_v c inb _ _ i hi))
    rw [e1, e2] at hw
    first | rw [view_k, view_k] at hw | rw [view_v, view_v] at hw
    subst hκ₁ hκ₂
    iapply hw
    isplitr; · iapply (records_inv m ρ K); iexact HR
    isplitr; · iapply (records_inv m ρ K); iexact HR
    isplitl [Hs]; · iexact Hs
    isplitl [Hd]; · iexact Hd
    isplitl [HO]; · iexact HO
    isplitl [Ht1]; · iexact Ht1
    isplitr; · iapply (records_reached m ρ K); iexact HR
    isplitl [Ht2]; · iexact Ht2
    iapply (records_reached m ρ K); iexact HR

end Send

/-! ## What a device owes, waits, signals -/

/-- What a device owes, whatever it has waited for. -/
def owe (c : Dev nD) (O : CellTallies nD τ sig Unit) : sProp 𝕄 := iprop(∃ W, owes (c : Thread nD τ) O W)

/-- A device signals a barrier or closing semaphore of device `n`. -/
theorem signal (c n : Dev nD) (k : Fin 16) (hk : k.val < 2) (hd : c ∈ dutK n k) {s : Sem sig} (hs : SemLoc.reg s = csem k)
    (O : CellTallies nD τ sig Unit) {a : ℕ} (ha : a = 1)
    {α : Type} {Q : α → sProp 𝕄} {p : PUnit → Prog (TpuEff nD τ sig (Elt F) Λ₀ .tc) α} :
    iprop(records m ρ K ∗ owe c (O + tallyAt (kcell (n, k)) () 1) ∗ dutyTok ER (kcell (n, k)) 0 c ∗ payK m ρ n k c)
      ⊢ iprop((owe c O -∗ run c (p ⟨⟩) Q) -∗ run c (.op (.semSignal (n : Thread nD τ) s a) p) Q) := by
  subst ha
  have e : ((n : Thread nD τ), SemLoc.reg s) = kcell (n, k) := by rw [hs]
  unfold owe
  iintro ⟨#HR, ⟨%W, HO⟩, Ht, Hp⟩ Hk
  iapply (Rounds.wp_signal 𝒱₀ ER (sched m ρ) (c : Thread nD τ) none (dst := (n : Thread nD τ)) (κ := K (n, k)) (r := 0)
      (d := c) (by rw [e, duties_cell]; exact hd) (by rw [e, amount_cell, if_pos hk]) () O (by rw [e])) $$ [HO Ht Hp]
  · rw [e, payload_cell]
    isplitr; · iapply (records_inv m ρ K); iexact HR
    isplitl [HO]; · iexact HO
    isplitl [Ht]; · iexact Ht
    isplitl [Hp]; · iexact Hp
    iapply (records_reached m ρ K); iexact HR
  iintro HO
  iapply Hk
  iexists W; iexact HO

/-- A cell without a duty closes unused. -/
theorem close_none (c : Dev nD) (k : Fin 16) (h : dutK c k = ∅) :
    iprop(records m ρ K ∗ atPos ER (kcell (c, k)) 0 ∅ 0) ⊢ iprop(|={Set.univ}=> semVal (kcell (c, k)) 0) := by
  iintro ⟨#HR, Ha⟩
  iapply (Rounds.cell_close ER (sched m ρ) (Set.mem_univ (K (c, k))) (fun h => h) (R := 0) (duties_none m ρ c k h))
  isplitr; · iapply (records_inv m ρ K); iexact HR
  iexact Ha

/-- A device waits for everything one of its cells expects, takes what came with it, and closes the cell. -/
theorem wait (c : Dev nD) (k : Fin 16) {w : TpuEff nD τ sig (Elt F) Λ₀ .tc PUnit} {sm : SemLoc sig} {a n : ℕ} (hs : sm = csem k)
    (hw : ∀ P : PUnit → sProp 𝕄, wpE (defs₀ (F := F)) 𝒱₀ (c : Thread nD τ) none Set.univ w P = waitSpec (c : Thread nD τ) Set.univ sm a P)
    (ha : a = (dutK c k).card * (if k.val < 2 then 1 else N)) (O : CellTallies nD τ sig Unit) (hO : Above n O) (hn : lvK k ≤ n)
    {α : Type} {Q : α → sProp 𝕄} {p : PUnit → Prog (TpuEff nD τ sig (Elt F) Λ₀ .tc) α} :
    iprop(records m ρ K ∗ levAts L lv ∗ cred (tallyAt (kcell (c, k)) () a) ∗ owe c O ∗ atPos ER (kcell (c, k)) 0 ∅ 0)
      ⊢ iprop(((owe c O ∗ semVal (kcell (c, k)) 0 ∗ bigSep (dutK c k) (fun d => payK m ρ c k d)) -∗ run c (p ⟨⟩) Q)
          -∗ run c (.op w p) Q) := by
  subst hs
  unfold owe
  iintro ⟨#HR, #Hlev, Hc, ⟨%W, HO⟩, Ha⟩ Hk
  iapply (Rounds.wp_wait_rest_token 𝒱₀ ER (sched m ρ) (c : Thread nD τ) none (κ := K (c, k)) hw (Set.mem_univ _) () (O := O) (W := W) (R := 0) (m := 0) (T := ∅)
      (by rw [Nat.zero_add, ha]; exact (expect_cell m ρ c k).symm)) $$ [Hc HO Ha]
  · isplitr; · iapply (records_inv m ρ K); iexact HR
    isplitl [Hc]; · iexact Hc
    isplitl [HO]; · iexact HO
    isplitr; · iapply (mayWait c (csem k) O hO (by rw [show lv ((c : Thread nD τ), csem k) () = lvK k from lv_cell (c, k) ()]; exact hn)); iexact Hlev
    iexact Ha
  iintro ⟨HO, Ha, -, Hp⟩
  ihave Hp := (Entails.of_eq (rest_cell m ρ c k)) $$ Hp
  imod (Rounds.cell_close ER (sched m ρ) (Set.mem_univ (K (c, k))) (fun h => h) (R := 0 + 1) (duties_later m ρ (kcell (c, k)))) $$ [Ha] with Hz
  · isplitr; · iapply (records_inv m ρ K); iexact HR
    iexact Ha
  iapply Hk
  isplitl [HO]; · iexists _; iexact HO
  isplitl [Hz] <;> iassumption

/-! ## The transfers of one place -/

/-- After the transfers to the device `j + 1` places on: their credit, or, if there is no such device, the share kept. -/
def Sent (b : Bool) (c : Dev nD) (j : Fin 3) : sProp 𝕄 :=
  if c.val + j.val + 1 < 4 then cred (tallyAt (kcell (c, sx b j)) () N) else pts b c c (shr j.succ) (filled m ρ b c)

theorem lane_pos {c : Dev nD} {d : ℕ} (h : c.val + d < 4) (b : Bool) : lane c d b = tallyAt (kcell (rot c d, rx b c)) () N := if_pos h
theorem lane_neg {c : Dev nD} {d : ℕ} (h : ¬ c.val + d < 4) (b : Bool) : lane c d b = 0 := if_neg h

theorem sends (c : Dev nD) (j : Fin 3) {v : BitVec 1} (hv : v = 1#1 ↔ c.val + j.val + 1 < 4) (O : CellTallies nD τ sig Unit)
    {off : Fin 4 → ℕ} {inb : v = 1#1 → ∀ a, off a + S1x2x256x256.size a ≤ S4x2x256x256.size a} (hoff : off = ![c.val, 0, 0, 0])
    {n n' : v = 1#1 → Dev nD} (hn : ∀ h, n h = rot c (j.val + 1)) (hn' : ∀ h, n' h = rot c (j.val + 1))
    {s1 t1 : DmaSem sig} {s2 t2 : v = 1#1 → DmaSem sig} (h1 : SemLoc.dma s1 = csem (sx false j)) (h2 : ∀ h, SemLoc.dma (s2 h) = csem (rx false c))
    (g1 : SemLoc.dma t1 = csem (sx true j)) (g2 : ∀ h, SemLoc.dma (t2 h) = csem (rx true c))
    {hsc : ∀ h, (slotM kM off (inb h) : Memref sig (Dev.tc (n h) : Thread nD τ).2.kind .vmem S2x256x256 .bf16).view.ref.isScScratch = false}
    {hsrc : ∀ h, (slotM kM off (inb h)).view.WordExact} {hdst : ∀ h, (slotM kM off (inb h)).view.WordExact}
    {hsem : ∀ h, DmaTarget.Typed .vmem (.dma (s2 h)) (.remote (Dev.tc (n h) : Thread nD τ) (slotM kM off (inb h) : Memref sig .tc .vmem S2x256x256 .bf16) (.dma s1) (hsc h))}
    {hsc' : ∀ h, (slotM vM off (inb h) : Memref sig (Dev.tc (n' h) : Thread nD τ).2.kind .vmem S2x256x256 .bf16).view.ref.isScScratch = false}
    {hsrc' : ∀ h, (slotM vM off (inb h)).view.WordExact} {hdst' : ∀ h, (slotM vM off (inb h)).view.WordExact}
    {hsem' : ∀ h, DmaTarget.Typed .vmem (.dma (t2 h)) (.remote (Dev.tc (n' h) : Thread nD τ) (slotM vM off (inb h) : Memref sig .tc .vmem S2x256x256 .bf16) (.dma t1) (hsc' h))}
    {α : Type} {Q : α → sProp 𝕄} {k : Prog (TpuEff nD τ sig (Elt F) Λ₀ .tc) α} :
    iprop(records m ρ K ∗ pts false c c (shr j.succ) (filled m ρ false c) ∗ pts true c c (shr j.succ) (filled m ρ true c) ∗ give (rot c (j.val + 1)) c
        ∗ owe c (O + lane c (j.val + 1) true + lane c (j.val + 1) false)
        ∗ dutyTok ER (kcell (c, sx false j)) 0 c ∗ dutyTok ER (kcell (c, sx true j)) 0 c
        ∗ dutyTok ER (kcell (rot c (j.val + 1), rx false c)) 0 c ∗ dutyTok ER (kcell (rot c (j.val + 1), rx true c)) 0 c)
      ⊢ iprop(((Sent m ρ false c j ∗ Sent m ρ true c j ∗ owe c O) -∗ run c k Q)
          -∗ run c (if h : v = 1#1 then
              .op (.enqueueDma (slotM kM off (inb h)) (.remote (Dev.tc (n h) : Thread nD τ) (slotM kM off (inb h)) (.dma s1) (hsc h)) (.dma (s2 h)) (hsrc h) (hdst h) (hsem h)) fun _ =>
              .op (.enqueueDma (slotM vM off (inb h)) (.remote (Dev.tc (n' h) : Thread nD τ) (slotM vM off (inb h)) (.dma t1) (hsc' h)) (.dma (t2 h)) (hsrc' h) (hdst' h) (hsem' h)) fun _ =>
              k
            else k) Q) := by
  by_cases h : v = 1#1
  · have hj := hv.1 h
    have hlt := lt_of_send c (n h) j hj (hn h)
    rw [dif_pos h, lane_pos (by omega), lane_pos (by omega)]
    unfold Sent give owe
    rw [if_pos hj, if_pos hj, if_pos (hn h ▸ hlt)]
    have en := hn h
    have en' := hn' h
    iintro ⟨#HR, Hs, Hs', ⟨Hd, Hd'⟩, ⟨%W, HO⟩, Ht1, Ht1', Ht2, Ht2'⟩ Hk
    have w1 := send m ρ K c (n h) j hj (hn h) hoff (O + tallyAt (kcell (rot c (j.val + 1), rx true c)) () N) W false (Q := Q)
      h1 (h2 h) (hsc := hsc h) (hsrc := hsrc h) (hdst := hdst h) (hsem := hsem h)
      (k := fun _ => .op (.enqueueDma (slotM vM off (inb h)) (.remote (Dev.tc (n' h) : Thread nD τ) (slotM vM off (inb h)) (.dma t1) (hsc' h)) (.dma (t2 h)) (hsrc' h) (hdst' h) (hsem' h)) fun _ => k)
    have w2 := send m ρ K c (n' h) j hj (hn' h) hoff O W true (Q := Q) (k := fun _ => k)
      g1 (g2 h) (hsc := hsc' h) (hsrc := hsrc' h) (hdst := hdst' h) (hsem := hsem' h)
    rw [show kcell (n h, rx false c) = kcell (rot c (j.val + 1), rx false c) by rw [en], show pts (F := F) false (n h) c = pts false (rot c (j.val + 1)) c by rw [en]] at w1
    rw [show kcell (n' h, rx true c) = kcell (rot c (j.val + 1), rx true c) by rw [en'], show pts (F := F) true (n' h) c = pts true (rot c (j.val + 1)) c by rw [en']] at w2
    iapply w1 $$ [Hs Hd HO Ht1 Ht2]
    · isplitr; · iexact HR
      isplitl [Hs]; · iexact Hs
      isplitl [Hd]; · iexact Hd
      isplitl [HO]; · iexact HO
      isplitl [Ht1] <;> iassumption
    iintro ⟨Hc, HO⟩
    iapply w2 $$ [Hs' Hd' HO Ht1' Ht2']
    · isplitr; · iexact HR
      isplitl [Hs']; · iexact Hs'
      isplitl [Hd']; · iexact Hd'
      isplitl [HO]; · iexact HO
      isplitl [Ht1'] <;> iassumption
    iintro ⟨Hc', HO⟩
    iapply Hk
    isplitl [Hc]; · iexact Hc
    isplitl [Hc']; · iexact Hc'
    iexists W; iexact HO
  · have hj : ¬ c.val + j.val + 1 < 4 := fun hj => h (hv.2 hj)
    rw [dif_neg h, lane_neg (by omega), lane_neg (by omega), add_zero, add_zero]
    unfold Sent
    rw [if_neg hj, if_neg hj]
    iintro ⟨#HR, Hs, Hs', -, HO, -⟩ Hk
    iapply Hk
    isplitl [Hs]; · iexact Hs
    isplitl [Hs'] <;> iassumption

/-- The waits for the transfers of one place: the shares lent come back and the two send cells close. -/
theorem send_waits (c : Dev nD) (j : Fin 3) {v : BitVec 1} (hv : v = 1#1 ↔ c.val + j.val + 1 < 4) (O : CellTallies nD τ sig Unit) (hO : Above 0 O)
    {w w' : v = 1#1 → TpuEff nD τ sig (Elt F) Λ₀ .tc PUnit} {s s' : SemLoc sig} (hs : s = csem (sx false j)) (hs' : s' = csem (sx true j))
    (hw : ∀ h (P : PUnit → sProp 𝕄), wpE (defs₀ (F := F)) 𝒱₀ (c : Thread nD τ) none Set.univ (w h) P = waitSpec (c : Thread nD τ) Set.univ s N P)
    (hw' : ∀ h (P : PUnit → sProp 𝕄), wpE (defs₀ (F := F)) 𝒱₀ (c : Thread nD τ) none Set.univ (w' h) P = waitSpec (c : Thread nD τ) Set.univ s' N P)
    {α : Type} {Q : α → sProp 𝕄} {k : Prog (TpuEff nD τ sig (Elt F) Λ₀ .tc) α} :
    iprop(records m ρ K ∗ levAts L lv ∗ Sent m ρ false c j ∗ Sent m ρ true c j ∗ owe c O
        ∗ atPos ER (kcell (c, sx false j)) 0 ∅ 0 ∗ atPos ER (kcell (c, sx true j)) 0 ∅ 0)
      ⊢ iprop(((pts false c c (shr j.succ) (filled m ρ false c) ∗ pts true c c (shr j.succ) (filled m ρ true c) ∗ owe c O
            ∗ semVal (kcell (c, sx false j)) 0 ∗ semVal (kcell (c, sx true j)) 0) -∗ run c k Q)
          -∗ run c (if h : v = 1#1 then .op (w h) fun _ => .op (w' h) fun _ => k else k) Q) := by
  unfold Sent
  by_cases h : v = 1#1
  · have hj := hv.1 h
    rw [dif_pos h, if_pos hj, if_pos hj]
    have hb : ∀ b, bigSep (dutK c (sx b j)) (fun d => payK m ρ c (sx b j) d) = pts b c c (shr j.succ) (filled m ρ b c) := fun b => by
      rw [dutK_sx, if_pos hj, bigSep_singleton, payK_sx]
    have ha : ∀ b, N = (dutK c (sx b j)).card * (if (sx b j).val < 2 then 1 else N) := fun b => by
      rw [dutK_sx, if_pos hj, if_neg (sx_big b j), Finset.card_singleton, Nat.one_mul]
    iintro ⟨#HR, #Hlev, Hc, Hc', HO, Ha, Ha'⟩ Hk
    iapply (wait m ρ K c (sx false j) hs (hw h) (ha false) O hO (by rw [lvK_sx])) $$ [Hc HO Ha]
    · isplitr; · iexact HR
      isplitr; · iexact Hlev
      isplitl [Hc]; · iexact Hc
      isplitl [HO] <;> iassumption
    iintro ⟨HO, Hz, Hp⟩
    ihave Hp := (Entails.of_eq (hb false)) $$ Hp
    iapply (wait m ρ K c (sx true j) hs' (hw' h) (ha true) O hO (by rw [lvK_sx])) $$ [Hc' HO Ha']
    · isplitr; · iexact HR
      isplitr; · iexact Hlev
      isplitl [Hc']; · iexact Hc'
      isplitl [HO] <;> iassumption
    iintro ⟨HO, Hz', Hp'⟩
    ihave Hp' := (Entails.of_eq (hb true)) $$ Hp'
    iapply Hk
    isplitl [Hp]; · iexact Hp
    isplitl [Hp']; · iexact Hp'
    isplitl [HO]; · iexact HO
    isplitl [Hz] <;> iassumption
  · have hj : ¬ c.val + j.val + 1 < 4 := fun hj => h (hv.2 hj)
    rw [dif_neg h, if_neg hj, if_neg hj]
    iintro ⟨#HR, -, Hp, Hp', HO, Ha, Ha'⟩ Hk
    have hd : ∀ b, dutK c (sx b j) = ∅ := fun b => by rw [dutK_sx, if_neg hj]
    imod (close_none m ρ K c (sx false j) (hd false)) $$ [Ha] with Hz
    · isplitr; · iexact HR
      iexact Ha
    imod (close_none m ρ K c (sx true j) (hd true)) $$ [Ha'] with Hz'
    · isplitr; · iexact HR
      iexact Ha'
    iapply Hk
    isplitl [Hp]; · iexact Hp
    isplitl [Hp']; · iexact Hp'
    isplitl [HO]; · iexact HO
    isplitl [Hz] <;> iassumption

/-! ## The receipts of one slot -/

/-- The share a device keeps of a slot while it computes: a quarter of its own, all of the others. -/
def keep (c o : Dev nD) : PosShare TreeShare := if o = c then shr 0 else fullShare

/-- A slot with its final contents. -/
def At (b : Bool) (c o : Dev nD) : sProp 𝕄 := pts b c o (keep c o) (filled m ρ b c)

/-- What a device holds of a slot before it waits for its receipt: the slot, unless an earlier device is to fill it, and the credit for that. -/
def Due (b : Bool) (c o : Dev nD) : sProp 𝕄 :=
  iprop((if o.val < c.val then iprop(cred (tallyAt (kcell (c, rx b o)) () N)) else At m ρ b c o) ∗ atPos ER (kcell (c, rx b o)) 0 ∅ 0)

/-- The waits for one slot's receipts: both slots with their final contents, the two receive cells closed. -/
theorem receipts (c o : Dev nD) {v : BitVec 1} (hv : v = 1#1 ↔ o.val < c.val) (O : CellTallies nD τ sig Unit) (hO : Above 2 O)
    {w w' : v = 1#1 → TpuEff nD τ sig (Elt F) Λ₀ .tc PUnit} {s s' : SemLoc sig} (hs : s = csem (rx false o)) (hs' : s' = csem (rx true o))
    (hw : ∀ h (P : PUnit → sProp 𝕄), wpE (defs₀ (F := F)) 𝒱₀ (c : Thread nD τ) none Set.univ (w h) P = waitSpec (c : Thread nD τ) Set.univ s N P)
    (hw' : ∀ h (P : PUnit → sProp 𝕄), wpE (defs₀ (F := F)) 𝒱₀ (c : Thread nD τ) none Set.univ (w' h) P = waitSpec (c : Thread nD τ) Set.univ s' N P)
    {α : Type} {Q : α → sProp 𝕄} {k : Prog (TpuEff nD τ sig (Elt F) Λ₀ .tc) α} :
    iprop(records m ρ K ∗ levAts L lv ∗ Due m ρ false c o ∗ Due m ρ true c o ∗ owe c O)
      ⊢ iprop(((At m ρ false c o ∗ At m ρ true c o ∗ owe c O ∗ semVal (kcell (c, rx false o)) 0 ∗ semVal (kcell (c, rx true o)) 0) -∗ run c k Q)
          -∗ run c (if h : v = 1#1 then .op (w h) fun _ => .op (w' h) fun _ => k else k) Q) := by
  unfold Due
  by_cases h : v = 1#1
  · have hj := hv.1 h
    rw [dif_pos h, if_pos hj, if_pos hj]
    have hne : o ≠ c := fun e => by rw [e] at hj; exact absurd hj (lt_irrefl _)
    have hb : ∀ b, bigSep (dutK c (rx b o)) (fun d => payK m ρ c (rx b o) d) = At m ρ b c o := fun b => by
      rw [dutK_rx, if_pos hj, bigSep_singleton, payK_rx]; unfold At keep; rw [if_neg hne]
    have ha : ∀ b, N = (dutK c (rx b o)).card * (if (rx b o).val < 2 then 1 else N) := fun b => by
      rw [dutK_rx, if_pos hj, if_neg (rx_big b o), Finset.card_singleton, Nat.one_mul]
    iintro ⟨#HR, #Hlev, ⟨Hc, Ha⟩, ⟨Hc', Ha'⟩, HO⟩ Hk
    iapply (wait m ρ K c (rx false o) hs (hw h) (ha false) O hO (by rw [lvK_rx])) $$ [Hc HO Ha]
    · isplitr; · iexact HR
      isplitr; · iexact Hlev
      isplitl [Hc]; · iexact Hc
      isplitl [HO] <;> iassumption
    iintro ⟨HO, Hz, Hp⟩
    ihave Hp := (Entails.of_eq (hb false)) $$ Hp
    iapply (wait m ρ K c (rx true o) hs' (hw' h) (ha true) O hO (by rw [lvK_rx])) $$ [Hc' HO Ha']
    · isplitr; · iexact HR
      isplitr; · iexact Hlev
      isplitl [Hc']; · iexact Hc'
      isplitl [HO] <;> iassumption
    iintro ⟨HO, Hz', Hp'⟩
    ihave Hp' := (Entails.of_eq (hb true)) $$ Hp'
    iapply Hk
    isplitl [Hp]; · iexact Hp
    isplitl [Hp']; · iexact Hp'
    isplitl [HO]; · iexact HO
    isplitl [Hz] <;> iassumption
  · have hj : ¬ o.val < c.val := fun hj => h (hv.2 hj)
    rw [dif_neg h, if_neg hj, if_neg hj]
    iintro ⟨#HR, -, ⟨Hp, Ha⟩, ⟨Hp', Ha'⟩, HO⟩ Hk
    have hd : ∀ b, dutK c (rx b o) = ∅ := fun b => by rw [dutK_rx, if_neg hj]
    imod (close_none m ρ K c (rx false o) (hd false)) $$ [Ha] with Hz
    · isplitr; · iexact HR
      iexact Ha
    imod (close_none m ρ K c (rx true o) (hd true)) $$ [Ha'] with Hz'
    · isplitr; · iexact HR
      iexact Ha'
    iapply Hk
    isplitl [Hp]; · iexact Hp
    isplitl [Hp']; · iexact Hp'
    isplitl [HO]; · iexact HO
    isplitl [Hz] <;> iassumption

end Cert.Attn

end
-- ==== Proof.Kern.Values.lean ====
/-
# What the kernel computes

For device `c`, batch row `b` and head `h`, the kernel passes over four blocks of keys: the device's own block (step `0`)
and slots `2`, `1`, `0` of its buffers (steps `1`, `2`, `3`). After step `n` it holds the running maximum `mS n` of the
scores, the running sum `lS n` of the weights and the running weighted sum `aS n` of the values. The functions below are
these values, written once for every batch row, head and step.
-/
module

public import proofs.«01_k».proof.Proof.Kern.Protocol

@[expose] public section

set_option maxRecDepth 16384

noncomputable section

namespace Cert.Attn

open Cert.KernelIdeal Cert.KernelIdeal.Gen

open Idealize.ShloMosaic
open Idealize.ShloMosaic.TcCoe

variable {F : FTy → Type} [FloatOps F] [Named F]

variable (m : (ℓ : Loc nD τ sig) → Buf (Elt F) ℓ) (ρ : Dev nD → PrngReg)

/-! ## The inputs of a device -/

def xstg (c : Dev nD) : S2x256x512.Idx → Elt F .bf16 :=
  (win0_0.blk (0 : Fin 1)).view.read (Elt F) ((s₀ m ρ).mem ((c : Thread nD τ).loc main_arg0))
def wqstg (c : Dev nD) : S512x256.Idx → Elt F .bf16 :=
  (win0_1.blk (0 : Fin 1)).view.read (Elt F) ((s₀ m ρ).mem ((c : Thread nD τ).loc main_arg1))
def wostg (c : Dev nD) : S256x512.Idx → Elt F .bf16 :=
  (win0_4.blk (0 : Fin 1)).view.read (Elt F) ((s₀ m ρ).mem ((c : Thread nD τ).loc main_arg4))

/-! ## Tiles -/

theorem inb_tile (o : Fin 4) (b : Fin 2) : ∀ a, (![o.val, b.val, 0, 0] : Fin 4 → ℕ) a + S1x1x256x256.size a ≤ S4x2x256x256.size a := by
  revert o b; decide
theorem inb_x (b : Fin 2) : ∀ a, (![b.val, 0, 0] : Fin 3 → ℕ) a + S1x256x512.size a ≤ S2x256x512.size a := by revert b; decide
theorem inb_blk (b : Fin 2) : ∀ a, (![b.val, 0, 0] : Fin 3 → ℕ) a + S1x256x256.size a ≤ S2x256x256.size a := by revert b; decide
theorem inb_head (h : Fin 4) : S256x256.Slices ![0, 64 * h.val] S256x64 := by revert h; decide

/-- Row `b` of slot `o` of the key or value buffer. -/
def tile (v : Bool) (c : Dev nD) (o : Fin 4) (b : Fin 2) : Vec F S1x1x256x256 .bf16 :=
  match v with
  | false => kM.view.readAt (Elt F) (Rect.unit (s := S4x2x256x256) ![o.val, b.val, 0, 0] S1x1x256x256.size (inb_tile o b)).toLoadRect (filled m ρ false c)
  | true => vM.view.readAt (Elt F) (Rect.unit (s := S4x2x256x256) ![o.val, b.val, 0, 0] S1x1x256x256.size (inb_tile o b)).toLoadRect (filled m ρ true c)

/-- The scaled queries of row `b`. -/
def qS (c : Dev nD) (b : Fin 2) : FVec F S256x256 .bf16 :=
  k0_pay10 (wqstg m ρ c) ((Memref.whole cc0_stg0_0).view.readAt (Elt F) (Rect.unit (s := S2x256x512) ![b.val, 0, 0] S1x256x512.size (inb_x b)).toLoadRect (xstg m ρ c))

/-- Row `b` of the keys or the values of step `n`. -/
def kvS (v : Bool) (c : Dev nD) : ℕ → Fin 2 → FVec F S256x256 .bf16
  | 0, b => match v with
    | false => k0_pay18 ((Memref.whole cc0_stg2_0).view.readAt (Elt F) (Rect.unit (s := S2x256x256) ![b.val, 0, 0] S1x256x256.size (inb_blk b)).toLoadRect (kstg m ρ c))
    | true => k0_pay18 ((Memref.whole cc0_stg3_0).view.readAt (Elt F) (Rect.unit (s := S2x256x256) ![b.val, 0, 0] S1x256x256.size (inb_blk b)).toLoadRect (vstg m ρ c))
  | 1, b => k0_pay65 (tile m ρ v c 2 b)
  | 2, b => k0_pay65 (tile m ρ v c 1 b)
  | _, b => k0_pay65 (tile m ρ v c 0 b)

/-- The columns of head `h`. -/
def head (h : Fin 4) (X : FVec F S256x256 .bf16) : FVec F S256x64 .bf16 := extractStridedSlice S256x64 ![0, 64 * h.val] X (inb_head h)

/-! ## The masks -/

abbrev iRow : IVec S256x256 32 := iota .tc S256x256 32 [0] iota_S256x256_d0_w32
abbrev iCol : IVec S256x256 32 := iota .tc S256x256 32 [1] iota_S256x256_d1_w32

/-- The device's number as the kernel computes it. -/
def my (c : Dev nD) : BitVec 32 := Scalar.remsi (Scalar.divsi (Dev.word c) 1#32) 4#32

/-- The global block of each query row. -/
def qblk (c : Dev nD) : IVec S256x256 32 := k0_pay12 iRow (Scalar.muli (my c) 4#32)

/-- Which keys of step `n` a query sees. -/
def mk (c : Dev nD) : ℕ → IVec S256x256 1
  | 0 => k0_pay17 iRow (k0_pay14 iCol) (k0_pay15 iCol) (k0_pay16 iCol)
  | 1 => k0_pay64 iCol (qblk c) (Scalar.cmpi .sgt (my c) 2#32) 64#32 (k0_pay62 iCol) (k0_pay63 iCol) (Scalar.cmpi .sgt 64#32 0#32)
  | 2 => k0_pay127 (qblk c) (Scalar.cmpi .sgt (my c) 1#32) (k0_pay124 iCol) (k0_pay125 iCol) (k0_pay126 iCol)
  | _ => k0_pay188 (qblk c) (Scalar.cmpi .sgt (my c) 0#32) (k0_pay187 iCol) 0#32

/-! ## The steps -/

/-- A column of row maxima, and of row sums. -/
def rowMax (s : FVec F S256x256 .f32) : FVec F S256x1 .f32 :=
  shapeCast S256x1 (multiReduction .maximumf [1] S256 s 0xFF800000#32 reduces_S256x256_S256 (.inl rfl) rfl) shapeCasts_S256_S256x1
def rowSum (s : FVec F S256x256 .f32) : FVec F S256x1 .f32 :=
  shapeCast S256x1 (multiReduction .add [1] S256 s 0x00000000#32 reduces_S256x256_S256 (.inl rfl) rfl) shapeCasts_S256_S256x1

/-- The products of the queries with the keys of step `n`. -/
def dotS (c : Dev nD) (n : ℕ) (b : Fin 2) (h : Fin 4) : FVec F S256x256 .f32 :=
  matmul dot_S256x64_S256x64_S256x256_1_1_0_0_n_n none (head h (qS m ρ c b)) (head h (kvS m ρ false c n b)) (constant S256x256 .f32 0x00000000#32)

def maskS : FVec F S256x256 .f32 := broadcast S256x256 (Named.named (F := F) κ "mask" 0xCE6E6B28#32)

/-- The scores of step `n`, masked. -/
def scS (c : Dev nD) (n : ℕ) (b : Fin 2) (h : Fin 4) : FVec F S256x256 .f32 := select (mk c n) (dotS m ρ c n b h) maskS

/-- The running maximum. -/
def mS (c : Dev nD) : ℕ → Fin 2 → Fin 4 → FVec F S256x1 .f32
  | 0, b, h => rowMax (scS m ρ c 0 b h)
  | n + 1, b, h => maximumf (mS c n b h) (rowMax (scS m ρ c (n + 1) b h))

/-- The weights of step `n`, and before the exponential. -/
def dS (c : Dev nD) (n : ℕ) (b : Fin 2) (h : Fin 4) : FVec F S256x256 .f32 :=
  subf (scS m ρ c n b h) (broadcastTo S256x256 (mS m ρ c n b h) broadcasts_S256x1_S256x256)
def pS (c : Dev nD) (n : ℕ) (b : Fin 2) (h : Fin 4) : FVec F S256x256 .f32 := exp (dS m ρ c n b h)

/-- The factor by which step `n + 1` rescales. -/
def alS (c : Dev nD) (n : ℕ) (b : Fin 2) (h : Fin 4) : FVec F S256x1 .f32 := exp (subf (mS m ρ c n b h) (mS m ρ c (n + 1) b h))

/-- The weighted sum of the values of step `n` alone. -/
def pvS (c : Dev nD) (n : ℕ) (b : Fin 2) (h : Fin 4) : FVec F S256x64 .f32 :=
  matmul dot_S256x256_S256x64_S256x64_1_0_0_1_n_n none (truncf .bf16 (pS m ρ c n b h) bitsLt_bf16_f32) (head h (kvS m ρ true c n b)) (constant S256x64 .f32 0x00000000#32)

/-- The running sum of the weights. -/
def lS (c : Dev nD) : ℕ → Fin 2 → Fin 4 → FVec F S256x1 .f32
  | 0, b, h => rowSum (pS m ρ c 0 b h)
  | n + 1, b, h => addf (mulf (lS c n b h) (alS m ρ c n b h)) (rowSum (pS m ρ c (n + 1) b h))

/-- The running weighted sum, rescaled for step `n + 1`. -/
def scaleS (al : FVec F S256x1 .f32) (a : FVec F S256x64 .f32) : FVec F S256x64 .f32 := mulf a (broadcastTo S256x64 al broadcasts_S256x1_S256x64)

/-- The running weighted sum of the values. -/
def aS (c : Dev nD) : ℕ → Fin 2 → Fin 4 → FVec F S256x64 .f32
  | 0, b, h => pvS m ρ c 0 b h
  | n + 1, b, h => addf (scaleS (alS m ρ c n b h) (aS c n b h)) (pvS m ρ c (n + 1) b h)

/-- One head's result. -/
def ctxS (c : Dev nD) (b : Fin 2) (h : Fin 4) : FVec F S256x64 .bf16 :=
  truncf .bf16 (divf (aS m ρ c 3 b h) (broadcastTo S256x64 (lS m ρ c 3 b h) broadcasts_S256x1_S256x64)) bitsLt_bf16_f32

/-- The output weights. -/
def woS (c : Dev nD) : FVec F S256x512 .bf16 := k0_pay13 (wostg m ρ c)

/-- Row `b` of the result. -/
def outS (c : Dev nD) (b : Fin 2) : FVec F S1x256x512 .f32 :=
  shapeCast S1x256x512 (matmul dot_S256x256_S256x512_S256x512_1_0_0_1_n_n none
    (concatenate S256x256 1 [⟨S256x64, ctxS m ρ c b 0⟩, ⟨S256x64, ctxS m ρ c b 1⟩, ⟨S256x64, ctxS m ρ c b 2⟩, ⟨S256x64, ctxS m ρ c b 3⟩]
      concatenates_S256x64_S256x64_S256x64_S256x64_S256x256_d1) (woS m ρ c) (constant S256x512 .f32 0x00000000#32)) shapeCasts_S256x512_S1x256x512

/-- The result of device `c`. -/
def outAt (c : Dev nD) : S2x256x512.Idx → Elt F .f32 := fun i => outS m ρ c (i 0) fun
  | 0 => ⟨0, by decide⟩
  | 1 => i 1
  | 2 => i 2

end Cert.Attn

end
-- ==== Proof.Kern.Parts.lean ====
/-
# The parts of the body that compute

The kernel's body is printed in twenty-five parts. Here are the parts that load, compute and store, each from the values
it is given to the values it returns, with the functions of `Values` for every value that passes from one part to the next.
-/
module

public import proofs.«01_k».proof.Proof.Kern.Steps
public import proofs.«01_k».proof.Proof.Kern.Values

@[expose] public section

set_option maxRecDepth 16384

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

abbrev xM : Memref sig .tc .vmem S2x256x512 .bf16 := Memref.whole cc0_stg0_0
abbrev wqM : Memref sig .tc .vmem S512x256 .bf16 := Memref.whole cc0_stg1_0
abbrev kiM : Memref sig .tc .vmem S2x256x256 .bf16 := Memref.whole cc0_stg2_0
abbrev viM : Memref sig .tc .vmem S2x256x256 .bf16 := Memref.whole cc0_stg3_0
abbrev woM : Memref sig .tc .vmem S256x512 .bf16 := Memref.whole cc0_stg4_0
abbrev oM : Memref sig .tc .vmem S2x256x512 .f32 := Memref.whole cc0_stg5_0
theorem hW (b : Ref sig .tc) : (Memref.whole b).IsWhole := Memref.isWhole_whole b

/-! ## The parts that only compute -/

theorem part6 (c : Dev nD) {Q : _ → sProp 𝕄} :
    Q ⟨lS m ρ c 0 0 0, aS m ρ c 0 0 0, mS m ρ c 0 0 1, lS m ρ c 0 0 1, aS m ρ c 0 0 1, mS m ρ c 0 0 2, lS m ρ c 0 0 2, aS m ρ c 0 0 2, scS m ρ c 0 0 3, mS m ρ c 0 0 3⟩
      ⊢ run c (k0_part6 (F := F) xM (hW _) wqM (hW _) kiM (hW _) viM (hW _) woM (hW _) oM (hW _) kM (hW _) vM (hW _) cc0_scratch2 cc0_scratch3 cc0_scratch4 cc0_scratch5 cc0_scoped0
          (qS m ρ c 0) (mk c 0) (kvS m ρ false c 0 0) (kvS m ρ true c 0 0) (scS m ρ c 0 0 0) (mS m ρ c 0 0 0)) Q :=
  run_ret c _ Q

theorem part10 (c : Dev nD) {Q : _ → sProp 𝕄} :
    Q ⟨aS m ρ c 1 0 0, mS m ρ c 1 0 1, lS m ρ c 1 0 1, aS m ρ c 1 0 1, mS m ρ c 1 0 2, lS m ρ c 1 0 2, aS m ρ c 1 0 2, head 3 (qS m ρ c 0)⟩
      ⊢ run c (k0_part10 (F := F) xM (hW _) wqM (hW _) kiM (hW _) viM (hW _) woM (hW _) oM (hW _) kM (hW _) vM (hW _) cc0_scratch2 cc0_scratch3 cc0_scratch4 cc0_scratch5 cc0_scoped0
          (qS m ρ c 0) (mS m ρ c 0 0 1) (lS m ρ c 0 0 1) (aS m ρ c 0 0 1) (mS m ρ c 0 0 2) (lS m ρ c 0 0 2) (aS m ρ c 0 0 2) (mk c 1) (kvS m ρ false c 1 0) (kvS m ρ true c 1 0) (scaleS (alS m ρ c 0 0 0) (aS m ρ c 0 0 0)) (truncf .bf16 (pS m ρ c 1 0 0) bitsLt_bf16_f32) (head 0 (kvS m ρ true c 1 0))) Q :=
  run_ret c _ Q

theorem part12 (c : Dev nD) {Q : _ → sProp 𝕄} :
    Q ⟨aS m ρ c 1 1 0, mS m ρ c 1 1 1, lS m ρ c 1 1 1, aS m ρ c 1 1 1, mS m ρ c 1 1 2, lS m ρ c 1 1 2, scaleS (alS m ρ c 0 1 2) (aS m ρ c 0 1 2), truncf .bf16 (pS m ρ c 1 1 2) bitsLt_bf16_f32, head 2 (kvS m ρ true c 1 1)⟩
      ⊢ run c (k0_part12 (F := F) xM (hW _) wqM (hW _) kiM (hW _) viM (hW _) woM (hW _) oM (hW _) kM (hW _) vM (hW _) cc0_scratch2 cc0_scratch3 cc0_scratch4 cc0_scratch5 cc0_scoped0
          (qS m ρ c 1) (aS m ρ c 0 1 0) (mS m ρ c 0 1 1) (lS m ρ c 0 1 1) (aS m ρ c 0 1 1) (mS m ρ c 0 1 2) (lS m ρ c 0 1 2) (aS m ρ c 0 1 2) (mk c 1) (kvS m ρ false c 1 1) (kvS m ρ true c 1 1) (alS m ρ c 0 1 0) (pS m ρ c 1 1 0)) Q :=
  run_ret c _ Q

theorem part15 (c : Dev nD) {Q : _ → sProp 𝕄} :
    Q ⟨mS m ρ c 2 0 1, lS m ρ c 2 0 1, aS m ρ c 2 0 1, mS m ρ c 2 0 2, lS m ρ c 2 0 2, aS m ρ c 2 0 2, scS m ρ c 2 0 3, rowMax (scS m ρ c 2 0 3)⟩
      ⊢ run c (k0_part15 (F := F) xM (hW _) wqM (hW _) kiM (hW _) viM (hW _) woM (hW _) oM (hW _) kM (hW _) vM (hW _) cc0_scratch2 cc0_scratch3 cc0_scratch4 cc0_scratch5 cc0_scoped0
          (qS m ρ c 0) (mS m ρ c 1 0 1) (lS m ρ c 1 0 1) (aS m ρ c 1 0 1) (mS m ρ c 1 0 2) (lS m ρ c 1 0 2) (aS m ρ c 1 0 2) (mk c 2) (kvS m ρ false c 2 0) (kvS m ρ true c 2 0) (dotS m ρ c 2 0 1) maskS) Q :=
  run_ret c _ Q

theorem part17 (c : Dev nD) {Q : _ → sProp 𝕄} :
    Q ⟨mS m ρ c 2 1 1, lS m ρ c 2 1 1, aS m ρ c 2 1 1, mS m ρ c 2 1 2, lS m ρ c 2 1 2, aS m ρ c 2 1 2, dotS m ρ c 2 1 3, maskS⟩
      ⊢ run c (k0_part17 (F := F) xM (hW _) wqM (hW _) kiM (hW _) viM (hW _) woM (hW _) oM (hW _) kM (hW _) vM (hW _) cc0_scratch2 cc0_scratch3 cc0_scratch4 cc0_scratch5 cc0_scoped0
          (qS m ρ c 1) (mS m ρ c 1 1 1) (lS m ρ c 1 1 1) (aS m ρ c 1 1 1) (mS m ρ c 1 1 2) (lS m ρ c 1 1 2) (aS m ρ c 1 1 2) (mk c 2) (kvS m ρ false c 2 1) (kvS m ρ true c 2 1) (head 1 (qS m ρ c 1)) (head 1 (kvS m ρ false c 2 1))) Q :=
  run_ret c _ Q

theorem part20 (c : Dev nD) {Q : _ → sProp 𝕄} :
    Q ⟨lS m ρ c 3 0 1, aS m ρ c 3 0 1, lS m ρ c 3 0 2, aS m ρ c 3 0 2, alS m ρ c 2 0 3, pS m ρ c 3 0 3, mulf (lS m ρ c 2 0 3) (alS m ρ c 2 0 3), multiReduction .add [1] S256 (pS m ρ c 3 0 3) 0x00000000#32 reduces_S256x256_S256 (.inl rfl) rfl⟩
      ⊢ run c (k0_part20 (F := F) xM (hW _) wqM (hW _) kiM (hW _) viM (hW _) woM (hW _) oM (hW _) kM (hW _) vM (hW _) cc0_scratch2 cc0_scratch3 cc0_scratch4 cc0_scratch5 cc0_scoped0
          (qS m ρ c 0) (lS m ρ c 2 0 1) (aS m ρ c 2 0 1) (mS m ρ c 2 0 2) (lS m ρ c 2 0 2) (aS m ρ c 2 0 2) (mS m ρ c 2 0 3) (lS m ρ c 2 0 3) (mk c 3) (kvS m ρ false c 3 0) (kvS m ρ true c 3 0) (alS m ρ c 2 0 1) (dS m ρ c 3 0 1)) Q :=
  run_ret c _ Q

theorem part22 (c : Dev nD) {Q : _ → sProp 𝕄} :
    Q ⟨lS m ρ c 3 1 1, aS m ρ c 3 1 1, lS m ρ c 3 1 2, aS m ρ c 3 1 2, alS m ρ c 2 1 3, dS m ρ c 3 1 3⟩
      ⊢ run c (k0_part22 (F := F) xM (hW _) wqM (hW _) kiM (hW _) viM (hW _) woM (hW _) oM (hW _) kM (hW _) vM (hW _) cc0_scratch2 cc0_scratch3 cc0_scratch4 cc0_scratch5 cc0_scoped0
          (qS m ρ c 1) (mS m ρ c 2 1 1) (lS m ρ c 2 1 1) (aS m ρ c 2 1 1) (mS m ρ c 2 1 2) (lS m ρ c 2 1 2) (aS m ρ c 2 1 2) (mS m ρ c 2 1 3) (mk c 3) (kvS m ρ false c 3 1) (kvS m ρ true c 3 1) (scS m ρ c 3 1 1) (mS m ρ c 3 1 1)) Q :=
  run_ret c _ Q

/-! ## The parts that load from the inputs -/

/-- The staged inputs. -/
def kIn (c : Dev nD) : sProp 𝕄 := ((c : Thread nD τ).loc cc0_stg2_0) ↦{fullShare} kstg m ρ c
def vIn (c : Dev nD) : sProp 𝕄 := ((c : Thread nD τ).loc cc0_stg3_0) ↦{fullShare} vstg m ρ c
def woIn (c : Dev nD) : sProp 𝕄 := ((c : Thread nD τ).loc cc0_stg4_0) ↦{fullShare} wostg m ρ c

theorem hz2 : (![0, 0] : Fin 2 → ℕ) = fun _ => 0 := funext fun a => by fin_cases a <;> rfl

theorem part4 (c : Dev nD) {Q : _ → sProp 𝕄} :
    woIn m ρ c ⊢ iprop((woIn m ρ c -∗ Q ⟨qblk c, woS m ρ c, k0_pay14 iCol, k0_pay15 iCol, k0_pay16 iCol⟩)
      -∗ run c (k0_part4 (F := F) xM (hW _) wqM (hW _) kiM (hW _) viM (hW _) woM (hW _) oM (hW _) kM (hW _) vM (hW _) cc0_scratch2 cc0_scratch3 cc0_scratch4 cc0_scratch5 cc0_scoped0
          iRow iCol (Scalar.muli (my c) 4#32)) Q) := by
  rw [k0_part4_eq_skeleton]; unfold k0_part4_skel woIn
  simp only [Prog.lift, Prog.bind_op, Prog.bind_ret, Prog.pure_eq_ret]
  iintro H Hk
  iapply (wp_load 𝒱₀ (c : Thread nD τ) none Set.univ (m := woM) (Finset.subset_univ _)) $$ H; iintro H
  have e : woM.view.readAt (Elt F) (Rect.unit (s := S256x512) ![0, 0] S256x512.size inb_S256x512_S256x512_0_0).toLoadRect (wostg m ρ c)
      = wostg m ρ c := Memref.readAt_unit_zero (Elt F) cc0_stg4_0 hz2 _ _
  rw [e, show k0_pay12 iRow (Scalar.muli (my c) 4#32) = qblk c from rfl, show k0_pay13 (wostg m ρ c) = woS m ρ c from rfl]
  iapply (run_ret c _ Q)
  iapply Hk; iexact H

/-- Two loads of a row of the staged inputs, and a result computed from them. -/
theorem inputs_ret (c : Dev nD) {off off' : Fin 3 → ℕ}
    {inb : ∀ a, off a + S1x256x256.size a ≤ S2x256x256.size a} {inb' : ∀ a, off' a + S1x256x256.size a ≤ S2x256x256.size a} {hl : _} {hl' : _}
    {α : Type} {Q : α → sProp 𝕄} {f : Vec F S1x256x256 .bf16 → Vec F S1x256x256 .bf16 → α} {a : α}
    (h : f (kiM.view.readAt (Elt F) (Rect.unit (s := S2x256x256) off S1x256x256.size inb).toLoadRect (kstg m ρ c))
      (viM.view.readAt (Elt F) (Rect.unit (s := S2x256x256) off' S1x256x256.size inb').toLoadRect (vstg m ρ c)) = a) :
    iprop(kIn m ρ c ∗ vIn m ρ c) ⊢ iprop(((kIn m ρ c ∗ vIn m ρ c) -∗ Q a)
      -∗ run c (.op (.load kiM (Rect.unit (s := S2x256x256) off S1x256x256.size inb).toLoadRect hl) fun x =>
          .op (.load viM (Rect.unit (s := S2x256x256) off' S1x256x256.size inb').toLoadRect hl') fun y => .ret (f x y)) Q) := by
  subst h
  unfold kIn vIn
  iintro ⟨H, H'⟩ Hk
  iapply (wp_load 𝒱₀ (c : Thread nD τ) none Set.univ (m := kiM) (Finset.subset_univ _)) $$ H; iintro H
  iapply (wp_load 𝒱₀ (c : Thread nD τ) none Set.univ (m := viM) (Finset.subset_univ _)) $$ H'; iintro H'
  iapply (run_ret c _ Q)
  iapply Hk
  isplitl [H] <;> iassumption

theorem part5 (c : Dev nD) {Q : _ → sProp 𝕄} :
    iprop(kIn m ρ c ∗ vIn m ρ c) ⊢ iprop(((kIn m ρ c ∗ vIn m ρ c) -∗ Q ⟨mk c 0, kvS m ρ false c 0 0, kvS m ρ true c 0 0, scS m ρ c 0 0 0, mS m ρ c 0 0 0⟩)
      -∗ run c (k0_part5 (F := F) xM (hW _) wqM (hW _) kiM (hW _) viM (hW _) woM (hW _) oM (hW _) kM (hW _) vM (hW _) cc0_scratch2 cc0_scratch3 cc0_scratch4 cc0_scratch5 cc0_scoped0
          (qS m ρ c 0) iRow (k0_pay14 iCol) (k0_pay15 iCol) (k0_pay16 iCol)) Q) := by
  rw [k0_part5_eq_skeleton]; unfold k0_part5_skel
  simp only [Prog.lift, Prog.bind_op, Prog.bind_ret, Prog.pure_eq_ret]
  exact inputs_ret m ρ c rfl

theorem part7 (c : Dev nD) {Q : _ → sProp 𝕄} :
    iprop(kIn m ρ c ∗ vIn m ρ c) ⊢ iprop(((kIn m ρ c ∗ vIn m ρ c) -∗ Q ⟨lS m ρ c 0 0 3, aS m ρ c 0 0 3, kvS m ρ false c 0 1, kvS m ρ true c 0 1, mS m ρ c 0 1 0, lS m ρ c 0 1 0, aS m ρ c 0 1 0, mS m ρ c 0 1 1, lS m ρ c 0 1 1, aS m ρ c 0 1 1⟩)
      -∗ run c (k0_part7 (F := F) xM (hW _) wqM (hW _) kiM (hW _) viM (hW _) woM (hW _) oM (hW _) kM (hW _) vM (hW _) cc0_scratch2 cc0_scratch3 cc0_scratch4 cc0_scratch5 cc0_scoped0
          (qS m ρ c 1) (mk c 0) (kvS m ρ true c 0 0) (scS m ρ c 0 0 3) (mS m ρ c 0 0 3)) Q) := by
  rw [k0_part7_eq_skeleton]; unfold k0_part7_skel
  simp only [Prog.lift, Prog.bind_op, Prog.bind_ret, Prog.pure_eq_ret]
  exact inputs_ret m ρ c rfl

/-! ## The parts that load from a slot -/

theorem setOn_whole_sub (b : Ref sig .tc) {M S : Finset b.ty.shape.Idx} (h : M ⊆ S) : (Memref.whole b).view.setOn M ⊆ S := by
  intro i hi
  obtain ⟨j, hj, rfl⟩ := Finset.mem_map.1 hi
  exact h hj

/-- A load from row `b` of a slot with its final contents. -/
theorem load_slot (v : Bool) (c o : Dev nD) (b : Fin 2) {off : Fin 4 → ℕ} {inb : ∀ a, off a + S1x1x256x256.size a ≤ S4x2x256x256.size a}
    (hoff : off = ![o.val, b.val, 0, 0]) {hl : _}
    {α : Type} {Q : α → sProp 𝕄} {p : Vec F S1x1x256x256 .bf16 → Prog (TpuEff nD τ sig (Elt F) Λ₀ .tc) α} :
    At m ρ v c o ⊢ iprop((At m ρ v c o -∗ run c (p (tile m ρ v c o b)) Q)
      -∗ run c (.op (.load (bufM v) (Rect.unit (s := S4x2x256x256) off S1x1x256x256.size inb).toLoadRect hl) p) Q) := by
  subst hoff
  have hsub : (Rect.unit (s := S4x2x256x256) ![o.val, b.val, 0, 0] S1x1x256x256.size inb).toLoadRect.set ⊆ slotSet o := by
    intro i hi
    have h0 := Rect.mem_set_unit.1 hi 0
    have e1 : (![o.val, b.val, 0, 0] : Fin 4 → ℕ) 0 = o.val := rfl
    have e2 : S1x1x256x256.size 0 = 1 := rfl
    rw [e1, e2] at h0
    exact mem_slotSet.2 (by omega)
  unfold At
  cases v
  · unfold pts
    iintro H Hk
    iapply (wp_load 𝒱₀ (c : Thread nD τ) none Set.univ (m := kM) (setOn_whole_sub cc0_scratch0 hsub)) $$ H; iintro H
    iapply Hk; iexact H
  · unfold pts
    iintro H Hk
    iapply (wp_load 𝒱₀ (c : Thread nD τ) none Set.univ (m := vM) (setOn_whole_sub cc0_scratch1 hsub)) $$ H; iintro H
    iapply Hk; iexact H

/-- Two loads of row `b` of a slot, of the keys and of the values, and a result computed from them. -/
theorem slots_ret (c o : Dev nD) (b : Fin 2) {off off' : Fin 4 → ℕ}
    {inb : ∀ a, off a + S1x1x256x256.size a ≤ S4x2x256x256.size a} {inb' : ∀ a, off' a + S1x1x256x256.size a ≤ S4x2x256x256.size a}
    (hoff : off = ![o.val, b.val, 0, 0]) (hoff' : off' = ![o.val, b.val, 0, 0]) {hl : _} {hl' : _}
    {α : Type} {Q : α → sProp 𝕄} {f : Vec F S1x1x256x256 .bf16 → Vec F S1x1x256x256 .bf16 → α} {a : α}
    (h : f (tile m ρ false c o b) (tile m ρ true c o b) = a) :
    iprop(At m ρ false c o ∗ At m ρ true c o) ⊢ iprop(((At m ρ false c o ∗ At m ρ true c o) -∗ Q a)
      -∗ run c (.op (.load kM (Rect.unit (s := S4x2x256x256) off S1x1x256x256.size inb).toLoadRect hl) fun x =>
          .op (.load vM (Rect.unit (s := S4x2x256x256) off' S1x1x256x256.size inb').toLoadRect hl') fun y => .ret (f x y)) Q) := by
  subst h
  iintro ⟨H, H'⟩ Hk
  iapply (load_slot m ρ false c o b hoff) $$ H; iintro H
  iapply (load_slot m ρ true c o b hoff') $$ H'; iintro H'
  iapply (run_ret c _ Q)
  iapply Hk
  isplitl [H] <;> iassumption

theorem part9 (c : Dev nD) {Q : _ → sProp 𝕄} :
    iprop(At m ρ false c 2 ∗ At m ρ true c 2) ⊢ iprop(((At m ρ false c 2 ∗ At m ρ true c 2) -∗ Q ⟨mk c 1, kvS m ρ false c 1 0, kvS m ρ true c 1 0, mS m ρ c 1 0 0, lS m ρ c 1 0 0, scaleS (alS m ρ c 0 0 0) (aS m ρ c 0 0 0), truncf .bf16 (pS m ρ c 1 0 0) bitsLt_bf16_f32, head 0 (kvS m ρ true c 1 0)⟩)
      -∗ run c (k0_part9 (F := F) xM (hW _) wqM (hW _) kiM (hW _) viM (hW _) woM (hW _) oM (hW _) kM (hW _) vM (hW _) cc0_scratch2 cc0_scratch3 cc0_scratch4 cc0_scratch5 cc0_scoped0
          (qS m ρ c 0) iCol (qblk c) (mS m ρ c 0 0 0) (lS m ρ c 0 0 0) (aS m ρ c 0 0 0) (Scalar.cmpi .sgt (my c) 2#32) 64#32 (k0_pay62 iCol) (k0_pay63 iCol) (Scalar.cmpi .sgt 64#32 0#32)) Q) := by
  rw [k0_part9_eq_skeleton]; unfold k0_part9_skel
  simp only [Prog.lift, Prog.bind_op, Prog.bind_ret, Prog.pure_eq_ret]
  exact slots_ret m ρ c 2 0 rfl rfl rfl

theorem part11 (c : Dev nD) {Q : _ → sProp 𝕄} :
    iprop(At m ρ false c 2 ∗ At m ρ true c 2) ⊢ iprop(((At m ρ false c 2 ∗ At m ρ true c 2) -∗ Q ⟨mS m ρ c 1 0 3, lS m ρ c 1 0 3, aS m ρ c 1 0 3, kvS m ρ false c 1 1, kvS m ρ true c 1 1, mS m ρ c 1 1 0, alS m ρ c 0 1 0, pS m ρ c 1 1 0, lS m ρ c 1 1 0⟩)
      -∗ run c (k0_part11 (F := F) xM (hW _) wqM (hW _) kiM (hW _) viM (hW _) woM (hW _) oM (hW _) kM (hW _) vM (hW _) cc0_scratch2 cc0_scratch3 cc0_scratch4 cc0_scratch5 cc0_scoped0
          (qS m ρ c 1) (mS m ρ c 0 0 3) (lS m ρ c 0 0 3) (aS m ρ c 0 0 3) (mS m ρ c 0 1 0) (lS m ρ c 0 1 0) (mk c 1) (kvS m ρ false c 1 0) (kvS m ρ true c 1 0) (head 3 (qS m ρ c 0))) Q) := by
  rw [k0_part11_eq_skeleton]; unfold k0_part11_skel
  simp only [Prog.lift, Prog.bind_op, Prog.bind_ret, Prog.pure_eq_ret]
  exact slots_ret m ρ c 2 1 rfl rfl rfl

theorem part14 (c : Dev nD) {Q : _ → sProp 𝕄} :
    iprop(At m ρ false c 1 ∗ At m ρ true c 1) ⊢ iprop(((At m ρ false c 1 ∗ At m ρ true c 1) -∗ Q ⟨mk c 2, kvS m ρ false c 2 0, kvS m ρ true c 2 0, mS m ρ c 2 0 0, lS m ρ c 2 0 0, aS m ρ c 2 0 0, dotS m ρ c 2 0 1, maskS⟩)
      -∗ run c (k0_part14 (F := F) xM (hW _) wqM (hW _) kiM (hW _) viM (hW _) woM (hW _) oM (hW _) kM (hW _) vM (hW _) cc0_scratch2 cc0_scratch3 cc0_scratch4 cc0_scratch5 cc0_scoped0
          (qS m ρ c 0) (qblk c) (mS m ρ c 1 0 0) (lS m ρ c 1 0 0) (aS m ρ c 1 0 0) (Scalar.cmpi .sgt (my c) 1#32) (k0_pay124 iCol) (k0_pay125 iCol) (k0_pay126 iCol)) Q) := by
  rw [k0_part14_eq_skeleton]; unfold k0_part14_skel
  simp only [Prog.lift, Prog.bind_op, Prog.bind_ret, Prog.pure_eq_ret]
  exact slots_ret m ρ c 1 0 rfl rfl rfl

theorem part16 (c : Dev nD) {Q : _ → sProp 𝕄} :
    iprop(At m ρ false c 1 ∗ At m ρ true c 1) ⊢ iprop(((At m ρ false c 1 ∗ At m ρ true c 1) -∗ Q ⟨mS m ρ c 2 0 3, lS m ρ c 2 0 3, aS m ρ c 2 0 3, kvS m ρ false c 2 1, kvS m ρ true c 2 1, mS m ρ c 2 1 0, lS m ρ c 2 1 0, aS m ρ c 2 1 0, head 1 (qS m ρ c 1), head 1 (kvS m ρ false c 2 1)⟩)
      -∗ run c (k0_part16 (F := F) xM (hW _) wqM (hW _) kiM (hW _) viM (hW _) woM (hW _) oM (hW _) kM (hW _) vM (hW _) cc0_scratch2 cc0_scratch3 cc0_scratch4 cc0_scratch5 cc0_scoped0
          (qS m ρ c 1) (mS m ρ c 1 0 3) (lS m ρ c 1 0 3) (aS m ρ c 1 0 3) (mS m ρ c 1 1 0) (lS m ρ c 1 1 0) (aS m ρ c 1 1 0) (mk c 2) (kvS m ρ true c 2 0) (scS m ρ c 2 0 3) (rowMax (scS m ρ c 2 0 3))) Q) := by
  rw [k0_part16_eq_skeleton]; unfold k0_part16_skel
  simp only [Prog.lift, Prog.bind_op, Prog.bind_ret, Prog.pure_eq_ret]
  exact slots_ret m ρ c 1 1 rfl rfl rfl

theorem part19 (c : Dev nD) {Q : _ → sProp 𝕄} :
    iprop(At m ρ false c 0 ∗ At m ρ true c 0) ⊢ iprop(((At m ρ false c 0 ∗ At m ρ true c 0) -∗ Q ⟨mk c 3, kvS m ρ false c 3 0, kvS m ρ true c 3 0, lS m ρ c 3 0 0, aS m ρ c 3 0 0, alS m ρ c 2 0 1, dS m ρ c 3 0 1⟩)
      -∗ run c (k0_part19 (F := F) xM (hW _) wqM (hW _) kiM (hW _) viM (hW _) woM (hW _) oM (hW _) kM (hW _) vM (hW _) cc0_scratch2 cc0_scratch3 cc0_scratch4 cc0_scratch5 cc0_scoped0
          (qS m ρ c 0) (qblk c) (mS m ρ c 2 0 0) (lS m ρ c 2 0 0) (aS m ρ c 2 0 0) (mS m ρ c 2 0 1) (Scalar.cmpi .sgt (my c) 0#32) (k0_pay187 iCol) 0#32) Q) := by
  rw [k0_part19_eq_skeleton]; unfold k0_part19_skel
  simp only [Prog.lift, Prog.bind_op, Prog.bind_ret, Prog.pure_eq_ret]
  exact slots_ret m ρ c 0 0 rfl rfl rfl

theorem part21 (c : Dev nD) {Q : _ → sProp 𝕄} :
    iprop(At m ρ false c 0 ∗ At m ρ true c 0) ⊢ iprop(((At m ρ false c 0 ∗ At m ρ true c 0) -∗ Q ⟨lS m ρ c 3 0 3, aS m ρ c 3 0 3, kvS m ρ false c 3 1, kvS m ρ true c 3 1, lS m ρ c 3 1 0, aS m ρ c 3 1 0, scS m ρ c 3 1 1, mS m ρ c 3 1 1⟩)
      -∗ run c (k0_part21 (F := F) xM (hW _) wqM (hW _) kiM (hW _) viM (hW _) woM (hW _) oM (hW _) kM (hW _) vM (hW _) cc0_scratch2 cc0_scratch3 cc0_scratch4 cc0_scratch5 cc0_scoped0
          (qS m ρ c 1) (aS m ρ c 2 0 3) (mS m ρ c 2 1 0) (lS m ρ c 2 1 0) (aS m ρ c 2 1 0) (mS m ρ c 2 1 1) (mk c 3) (kvS m ρ true c 3 0) (alS m ρ c 2 0 3) (pS m ρ c 3 0 3) (mulf (lS m ρ c 2 0 3) (alS m ρ c 2 0 3)) (multiReduction .add [1] S256 (pS m ρ c 3 0 3) 0x00000000#32 reduces_S256x256_S256 (.inl rfl) rfl)) Q) := by
  rw [k0_part21_eq_skeleton]; unfold k0_part21_skel
  simp only [Prog.lift, Prog.bind_op, Prog.bind_ret, Prog.pure_eq_ret]
  exact slots_ret m ρ c 0 1 rfl rfl rfl

end Cert.Attn

end
-- ==== Proof.Kern.Fill.lean ====
/-
# The parts of the body that store

The first part of the body fills the two four-slot buffers: zeroes in the slots above the device's own, the device's own
block in its own slot. The twenty-third stores the result's two rows.
-/
module

public import proofs.«01_k».proof.Proof.Kern.Parts
public import Idealize.ShloMosaic.Lib.Pipeline.Value

@[expose] public section

set_option maxRecDepth 16384

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

theorem hz3 : (![0, 0, 0] : Fin 3 → ℕ) = fun _ => 0 := funext fun a => by fin_cases a <;> rfl

/-! ## One slot written -/

/-- The place in a one-slot block of an index of the four-slot buffer. -/
def inSlot (i : S4x2x256x256.Idx) : S1x2x256x256.Idx := fun
  | 0 => ⟨0, by decide⟩
  | 1 => i 1
  | 2 => i 2
  | 3 => i 3

theorem inSlot_emb (o : Dev nD) (inb : ∀ a, (![o.val, 0, 0, 0] : Fin 4 → ℕ) a + S1x2x256x256.size a ≤ S4x2x256x256.size a)
    (i : S4x2x256x256.Idx) (hi : (i 0).val = o.val) :
    (Rect.unit (s := S4x2x256x256) ![o.val, 0, 0, 0] S1x2x256x256.size inb).emb (inSlot i) = i := by
  funext a
  apply Fin.ext
  rw [Rect.emb_apply]
  fin_cases a
  · show o.val + 1 * 0 = (i 0).val
    omega
  · show 0 + 1 * (i 1).val = (i 1).val
    omega
  · show 0 + 1 * (i 2).val = (i 2).val
    omega
  · show 0 + 1 * (i 3).val = (i 3).val
    omega

section Written

variable (o : Dev nD) (inb : ∀ a, (![o.val, 0, 0, 0] : Fin 4 → ℕ) a + S1x2x256x256.size a ≤ S4x2x256x256.size a)
  (f : S4x2x256x256.Idx → Elt F .bf16) (w : S1x2x256x256.Idx → Elt F .bf16) (i : S4x2x256x256.Idx)

theorem not_mem_slot (b : Ref sig .tc) {R S : Finset b.ty.shape.Idx} (h : R = S) {i : b.ty.shape.Idx} (hi : i ∉ S) (r : Rect b.ty.shape) (hr : r.set = R) :
    i ∉ ((View.whole b).slice r).setOn Finset.univ := by
  rw [View.setOn_univ, View.set_slice_whole, hr, h]; exact hi

theorem written_k : (kM.access (Rect.unit (s := S4x2x256x256) ![o.val, 0, 0, 0] S1x2x256x256.size inb)).write (Elt F) f w Finset.univ i
    = if (i 0).val = o.val then w (inSlot i) else f i := by
  by_cases hi : (i 0).val = o.val
  · rw [if_pos hi]
    have h := View.write_emb_of_mem (Val := Elt F) (v := kM.access (Rect.unit (s := S4x2x256x256) ![o.val, 0, 0, 0] S1x2x256x256.size inb)) f w
      (Finset.mem_univ (inSlot i))
    have e : (kM.access (Rect.unit (s := S4x2x256x256) ![o.val, 0, 0, 0] S1x2x256x256.size inb)).emb (inSlot i) = i := inSlot_emb o inb i hi
    rw [e] at h; exact h
  · rw [if_neg hi]
    exact View.write_of_not_mem (v := kM.access (Rect.unit (s := S4x2x256x256) ![o.val, 0, 0, 0] S1x2x256x256.size inb)) f w Finset.univ
      (not_mem_slot cc0_scratch0 (slot_rect_set o inb) (fun h => hi (mem_slotSet.1 h)) _ rfl)

theorem written_v : (vM.access (Rect.unit (s := S4x2x256x256) ![o.val, 0, 0, 0] S1x2x256x256.size inb)).write (Elt F) f w Finset.univ i
    = if (i 0).val = o.val then w (inSlot i) else f i := by
  by_cases hi : (i 0).val = o.val
  · rw [if_pos hi]
    have h := View.write_emb_of_mem (Val := Elt F) (v := vM.access (Rect.unit (s := S4x2x256x256) ![o.val, 0, 0, 0] S1x2x256x256.size inb)) f w
      (Finset.mem_univ (inSlot i))
    have e : (vM.access (Rect.unit (s := S4x2x256x256) ![o.val, 0, 0, 0] S1x2x256x256.size inb)).emb (inSlot i) = i := inSlot_emb o inb i hi
    rw [e] at h; exact h
  · rw [if_neg hi]
    exact View.write_of_not_mem (v := vM.access (Rect.unit (s := S4x2x256x256) ![o.val, 0, 0, 0] S1x2x256x256.size inb)) f w Finset.univ
      (not_mem_slot cc0_scratch1 (slot_rect_set o inb) (fun h => hi (mem_slotSet.1 h)) _ rfl)

end Written

/-! ## The two buffers while they are filled -/

/-- The key or value buffer of device `c`, its slots in `S` with their contents of the end. -/
def Filled (b : Bool) (c : Dev nD) (S : ℕ → Prop) : sProp 𝕄 :=
  iprop(∃ f, ⌜∀ i : S4x2x256x256.Idx, S (i 0).val → f i = filled m ρ b c i⌝ ∗ whole b c f)

/-- A load from a slot, its value dropped, and a store to it. -/
theorem store_slot (b : Bool) (c o : Dev nD) {S : ℕ → Prop} {off off' : Fin 4 → ℕ}
    {inb : ∀ a, off a + S1x2x256x256.size a ≤ S4x2x256x256.size a} {inb' : ∀ a, off' a + S1x2x256x256.size a ≤ S4x2x256x256.size a}
    (hoff : off = ![o.val, 0, 0, 0]) (hoff' : off' = ![o.val, 0, 0, 0])
    {w : S1x2x256x256.Idx → Elt F .bf16} (hw : ∀ i : S4x2x256x256.Idx, (i 0).val = o.val → w (inSlot i) = filled m ρ b c i)
    {hl : _} {hst : ((bufM b).access (Rect.unit (s := S4x2x256x256) off' S1x2x256x256.size inb')).Stores Finset.univ} {hm : _}
    {α : Type} {Q : α → sProp 𝕄} {p : PUnit → Prog (TpuEff nD τ sig (Elt F) Λ₀ .tc) α} :
    Filled m ρ b c S ⊢ iprop((Filled m ρ b c (fun n => S n ∨ n = o.val) -∗ run c (p ⟨⟩) Q)
      -∗ run c (.op (.load (bufM b) (Rect.unit (s := S4x2x256x256) off S1x2x256x256.size inb).toLoadRect hl) fun _ =>
          .op (.store (bufM b) (Rect.unit (s := S4x2x256x256) off' S1x2x256x256.size inb') w Finset.univ hst hm) p) Q) := by
  subst hoff; subst hoff'
  unfold Filled
  cases b
  · unfold whole
    iintro H Hk
    icases H with ⟨%f, %hf, H⟩
    iapply (wp_load 𝒱₀ (c : Thread nD τ) none Set.univ (m := kM) (Finset.subset_univ _)) $$ H; iintro H
    iapply (wp_store 𝒱₀ (c : Thread nD τ) none Set.univ (m := kM) (r := Rect.unit (s := S4x2x256x256) ![o.val, 0, 0, 0] S1x2x256x256.size inb') (Mk := Finset.univ) (Finset.subset_univ _)) $$ H; iintro H
    iapply Hk
    iexists _
    isplitr
    rotate_left
    · iexact H
    · ipureintro
      intro i hi
      refine (written_k o inb' f w i).trans ?_
      by_cases h : (i 0).val = o.val
      · rw [if_pos h, hw i h]
      · rw [if_neg h, hf i (hi.resolve_right h)]
  · unfold whole
    iintro H Hk
    icases H with ⟨%f, %hf, H⟩
    iapply (wp_load 𝒱₀ (c : Thread nD τ) none Set.univ (m := vM) (Finset.subset_univ _)) $$ H; iintro H
    iapply (wp_store 𝒱₀ (c : Thread nD τ) none Set.univ (m := vM) (r := Rect.unit (s := S4x2x256x256) ![o.val, 0, 0, 0] S1x2x256x256.size inb') (Mk := Finset.univ) (Finset.subset_univ _)) $$ H; iintro H
    iapply Hk
    iexists _
    isplitr
    rotate_left
    · iexact H
    · ipureintro
      intro i hi
      refine (written_v o inb' f w i).trans ?_
      by_cases h : (i 0).val = o.val
      · rw [if_pos h, hw i h]
      · rw [if_neg h, hf i (hi.resolve_right h)]

/-! ## The first part -/

theorem zero_above (b : Bool) (c o : Dev nD) (h : c.val < o.val) (i : S4x2x256x256.Idx) (hi : (i 0).val = o.val) :
    Scalar.ofBits (F := F) .bf16 0x0000#16 = filled m ρ b c i := by
  unfold filled; rw [if_neg (by omega)]

theorem own_block (b : Bool) (c : Dev nD) (w : S2x256x256.Idx → Elt F .bf16) (hw : w = blkOf m ρ b c) (i : S4x2x256x256.Idx)
    (hi : (i 0).val = c.val) : shapeCast S1x2x256x256 w shapeCasts_S2x256x256_S1x2x256x256 (inSlot i) = filled m ρ b c i := by
  subst hw
  unfold filled
  rw [if_pos (by omega)]
  have e : (⟨(i 0).val, (i 0).isLt⟩ : Dev nD) = c := Fin.ext hi
  rw [e]
  refine (shapeCast_addUnit_apply _ _ _ _).trans (congrArg _ ?_)
  funext a
  fin_cases a <;> rfl

theorem own_k (c : Dev nD) (w : Vec F S2x256x256 .bf16) (hw : w = kstg m ρ c) (i : S4x2x256x256.Idx) (hi : (i 0).val = c.val) :
    k0_pay7 w (inSlot i) = filled m ρ false c i := by
  refine Eq.trans ?_ (own_block m ρ false c w hw i hi)
  unfold k0_pay7
  exact congrArg (fun u => shapeCast S1x2x256x256 u shapeCasts_S2x256x256_S1x2x256x256 (inSlot i)) (shapeCast_self w _)
theorem own_v (c : Dev nD) (w : Vec F S2x256x256 .bf16) (hw : w = vstg m ρ c) (i : S4x2x256x256.Idx) (hi : (i 0).val = c.val) :
    k0_pay8 w (inSlot i) = filled m ρ true c i := by
  refine Eq.trans ?_ (own_block m ρ true c w hw i hi)
  unfold k0_pay8
  exact congrArg (fun u => shapeCast S1x2x256x256 u shapeCasts_S2x256x256_S1x2x256x256 (inSlot i)) (shapeCast_self w _)

/-- A slot above the device's own is zeroed. -/
theorem zero_slot (c o : Dev nD) {v : BitVec 1} (hv : v = 1#1 ↔ c.val < o.val) {S : ℕ → Prop}
    {off : Fin 4 → ℕ} {inb : ∀ a, off a + S1x2x256x256.size a ≤ S4x2x256x256.size a} (hoff : off = ![o.val, 0, 0, 0])
    {w w' : S1x2x256x256.Idx → Elt F .bf16} (hw : ∀ i, w i = Scalar.ofBits (F := F) .bf16 0x0000#16) (hw' : ∀ i, w' i = Scalar.ofBits (F := F) .bf16 0x0000#16)
    {hl : _} {hst : (kM.access (Rect.unit (s := S4x2x256x256) off S1x2x256x256.size inb)).Stores Finset.univ} {hm : _}
    {hl' : _} {hst' : (vM.access (Rect.unit (s := S4x2x256x256) off S1x2x256x256.size inb)).Stores Finset.univ} {hm' : _}
    {α : Type} {Q : α → sProp 𝕄} {k : Prog (TpuEff nD τ sig (Elt F) Λ₀ .tc) α} :
    iprop(Filled m ρ false c S ∗ Filled m ρ true c S) ⊢ iprop(((Filled m ρ false c (fun n => S n ∨ (n = o.val ∧ c.val < n)) ∗ Filled m ρ true c (fun n => S n ∨ (n = o.val ∧ c.val < n))) -∗ run c k Q)
      -∗ run c (if h : v = 1#1 then
          .op (.load kM (Rect.unit (s := S4x2x256x256) off S1x2x256x256.size inb).toLoadRect hl) fun _ =>
          .op (.store kM (Rect.unit (s := S4x2x256x256) off S1x2x256x256.size inb) w Finset.univ hst hm) fun _ =>
          .op (.load vM (Rect.unit (s := S4x2x256x256) off S1x2x256x256.size inb).toLoadRect hl') fun _ =>
          .op (.store vM (Rect.unit (s := S4x2x256x256) off S1x2x256x256.size inb) w' Finset.univ hst' hm') fun _ => k
        else k) Q) := by
  by_cases h : v = 1#1
  · have ho := hv.1 h
    rw [dif_pos h]
    have e : (fun n => S n ∨ (n = o.val ∧ c.val < n)) = fun n => S n ∨ n = o.val :=
      funext fun n => propext ⟨fun h => h.imp id And.left, fun h => h.imp id fun h => ⟨h, by omega⟩⟩
    rw [e]
    iintro ⟨HK, HV⟩ Hk
    iapply (store_slot m ρ false c o hoff hoff fun i hi => (hw _).trans (zero_above m ρ false c o ho i hi)) $$ HK; iintro HK
    iapply (store_slot m ρ true c o hoff hoff fun i hi => (hw' _).trans (zero_above m ρ true c o ho i hi)) $$ HV; iintro HV
    iapply Hk
    isplitl [HK] <;> iassumption
  · have ho : ¬ c.val < o.val := fun h' => h (hv.2 h')
    rw [dif_neg h]
    have e : (fun n => S n ∨ (n = o.val ∧ c.val < n)) = S :=
      funext fun n => propext ⟨fun h => h.elim id fun h => by omega, Or.inl⟩
    rw [e]
    iintro H Hk
    iapply Hk
    iexact H

theorem slt1 (c : Dev nD) : Scalar.cmpi .ne (Scalar.extui (Scalar.cmpi .slt (my c) 1#32) : BitVec 32) 0#32 = 1#1 ↔ c.val < (1 : Dev nD).val := by
  revert c; decide
theorem slt2 (c : Dev nD) : Scalar.cmpi .ne (Scalar.extui (Scalar.cmpi .slt (my c) 2#32) : BitVec 32) 0#32 = 1#1 ↔ c.val < (2 : Dev nD).val := by
  revert c; decide
theorem slt3 (c : Dev nD) : Scalar.cmpi .ne (Scalar.extui (Scalar.cmpi .slt (my c) 3#32) : BitVec 32) 0#32 = 1#1 ↔ c.val < (3 : Dev nD).val := by
  revert c; decide

theorem Filled.congr {b : Bool} {c : Dev nD} {S S' : ℕ → Prop} (h : ∀ n, n < 4 → (S n ↔ S' n)) : Filled m ρ b c S ⊢ Filled m ρ b c S' := by
  unfold Filled
  iintro H
  icases H with ⟨%f, %hf, H⟩
  iexists f
  isplitr
  · ipureintro
    exact fun i hi => hf i ((h _ (i 0).isLt).2 hi)
  · iexact H

theorem part1 (c : Dev nD) {Q : _ → sProp 𝕄} :
    iprop(kIn m ρ c ∗ vIn m ρ c ∗ Filled m ρ false c (fun _ => False) ∗ Filled m ρ true c (fun _ => False))
      ⊢ iprop(((kIn m ρ c ∗ vIn m ρ c ∗ Filled m ρ false c (fun n => c.val ≤ n) ∗ Filled m ρ true c (fun n => c.val ≤ n))
          -∗ Q ⟨c, my c, SemArray.scalar (sig.barrier 0 rfl), Scalar.select (Scalar.cmpi .eq 4#32 0#32) 1#32 4#32, Scalar.remsi (Scalar.addi (my c) 1#32) (Scalar.select (Scalar.cmpi .eq 4#32 0#32) 1#32 4#32), 0#32⟩)
      -∗ run c (k0_part1 (F := F) xM (hW _) wqM (hW _) kiM (hW _) viM (hW _) woM (hW _) oM (hW _) kM (hW _) vM (hW _) cc0_scratch2 cc0_scratch3 cc0_scratch4 cc0_scratch5 cc0_scoped0) Q) := by
  rw [k0_part1_eq_skeleton]; unfold k0_part1_skel
  simp only [Prog.lift, Prog.bind_op, Prog.bind_ret, Prog.pure_eq_ret, wp_deviceId]
  simp only [show Scalar.remsi (Scalar.divsi (Dev.word c) 1#32) 4#32 = my c from rfl]
  iintro ⟨Hi, Hi', HK, HV⟩ Hk
  iapply (zero_slot m ρ c 1 (slt1 c) rfl (fun _ => rfl) (fun _ => rfl)) $$ [HK HV]
  · isplitl [HK] <;> iassumption
  iintro ⟨HK, HV⟩
  iapply (zero_slot m ρ c 2 (slt2 c) rfl (fun _ => rfl) (fun _ => rfl)) $$ [HK HV]
  · isplitl [HK] <;> iassumption
  iintro ⟨HK, HV⟩
  iapply (zero_slot m ρ c 3 (slt3 c) rfl (fun _ => rfl) (fun _ => rfl)) $$ [HK HV]
  · isplitl [HK] <;> iassumption
  iintro ⟨HK, HV⟩
  unfold kIn vIn
  iapply (wp_load 𝒱₀ (c : Thread nD τ) none Set.univ (m := kiM) (Finset.subset_univ _)) $$ Hi; iintro Hi
  iapply (store_slot m ρ false c c (k0_off1_eq c) (k0_off1_eq c) fun i hi => own_k m ρ c _ (Memref.readAt_unit_zero (Elt F) cc0_stg2_0 hz3 _ _) i hi) $$ HK; iintro HK
  iapply (wp_load 𝒱₀ (c : Thread nD τ) none Set.univ (m := viM) (Finset.subset_univ _)) $$ Hi'; iintro Hi'
  iapply (store_slot m ρ true c c (k0_off1_eq c) (k0_off1_eq c) fun i hi => own_v m ρ c _ (Memref.readAt_unit_zero (Elt F) cc0_stg3_0 hz3 _ _) i hi) $$ HV; iintro HV
  iapply (run_ret c _ Q)
  iapply Hk
  isplitl [Hi]; · iexact Hi
  isplitl [Hi']; · iexact Hi'
  have hS : ∀ n, n < 4 → (((((False ∨ n = (1 : Dev nD).val ∧ c.val < n) ∨ n = (2 : Dev nD).val ∧ c.val < n) ∨ n = (3 : Dev nD).val ∧ c.val < n) ∨ n = c.val) ↔ c.val ≤ n) := by
    intro n hn
    show ((((False ∨ n = 1 ∧ c.val < n) ∨ n = 2 ∧ c.val < n) ∨ n = 3 ∧ c.val < n) ∨ n = c.val) ↔ c.val ≤ n
    rw [false_or]
    have : c.val < 4 := c.isLt
    omega
  isplitl [HK]
  · iapply (Filled.congr m ρ hS) $$ HK
  · iapply (Filled.congr m ρ hS) $$ HV

/-! ## The result stored -/

def inRow (i : S2x256x512.Idx) : S1x256x512.Idx := fun
  | 0 => ⟨0, by decide⟩
  | 1 => i 1
  | 2 => i 2

theorem inRow_emb (b : Fin 2) (i : S2x256x512.Idx) (hi : (i 0).val = b.val) :
    (Rect.unit (s := S2x256x512) ![b.val, 0, 0] S1x256x512.size (inb_x b)).emb (inRow i) = i := by
  funext a
  apply Fin.ext
  rw [Rect.emb_apply]
  fin_cases a
  · show b.val + 1 * 0 = (i 0).val
    omega
  · show 0 + 1 * (i 1).val = (i 1).val
    omega
  · show 0 + 1 * (i 2).val = (i 2).val
    omega

theorem written_o (b : Fin 2) (f : S2x256x512.Idx → Elt F .f32) (w : S1x256x512.Idx → Elt F .f32) (i : S2x256x512.Idx) :
    (oM.access (Rect.unit (s := S2x256x512) ![b.val, 0, 0] S1x256x512.size (inb_x b))).write (Elt F) f w Finset.univ i
      = if (i 0).val = b.val then w (inRow i) else f i := by
  by_cases hi : (i 0).val = b.val
  · rw [if_pos hi]
    have h := View.write_emb_of_mem (Val := Elt F) (v := oM.access (Rect.unit (s := S2x256x512) ![b.val, 0, 0] S1x256x512.size (inb_x b))) f w
      (Finset.mem_univ (inRow i))
    have e : (oM.access (Rect.unit (s := S2x256x512) ![b.val, 0, 0] S1x256x512.size (inb_x b))).emb (inRow i) = i := inRow_emb b i hi
    rw [e] at h; exact h
  · rw [if_neg hi]
    refine View.write_of_not_mem (v := oM.access (Rect.unit (s := S2x256x512) ![b.val, 0, 0] S1x256x512.size (inb_x b))) f w Finset.univ
      (not_mem_slot cc0_stg5_0 rfl (fun h => hi ?_) _ rfl)
    have h0 := Rect.mem_set_unit.1 h 0
    have e1 : (![b.val, 0, 0] : Fin 3 → ℕ) 0 = b.val := rfl
    have e2 : S1x256x512.size 0 = 1 := rfl
    rw [e1, e2] at h0
    omega

/-- The result of device `c`, stored. -/
def oOut (c : Dev nD) : sProp 𝕄 := ((c : Thread nD τ).loc cc0_stg5_0) ↦{fullShare} outAt m ρ c

theorem row0 (c : Dev nD) : k0_pay242 (woS m ρ c) (lS m ρ c 3 0 0) (aS m ρ c 3 0 0) (lS m ρ c 3 0 1) (aS m ρ c 3 0 1) (lS m ρ c 3 0 2) (aS m ρ c 3 0 2) (lS m ρ c 3 0 3) (aS m ρ c 3 0 3) = outS m ρ c 0 := rfl
theorem row1 (c : Dev nD) : k0_pay243 (woS m ρ c) (lS m ρ c 2 1 3) (aS m ρ c 2 1 3) (kvS m ρ true c 3 1) (lS m ρ c 3 1 0) (aS m ρ c 3 1 0) (lS m ρ c 3 1 1) (aS m ρ c 3 1 1) (lS m ρ c 3 1 2) (aS m ρ c 3 1 2) (alS m ρ c 2 1 3) (dS m ρ c 3 1 3) = outS m ρ c 1 := rfl

/-- A load from a row of the result, its value dropped, and a store to it. -/
theorem store_row (c : Dev nD) (b : Fin 2) {off off' : Fin 3 → ℕ}
    {inb : ∀ a, off a + S1x256x512.size a ≤ S2x256x512.size a} {inb' : ∀ a, off' a + S1x256x512.size a ≤ S2x256x512.size a}
    (hoff : off = ![b.val, 0, 0]) (hoff' : off' = ![b.val, 0, 0]) {f : S2x256x512.Idx → Elt F .f32} {w : S1x256x512.Idx → Elt F .f32}
    {hl : _} {hst : (oM.access (Rect.unit (s := S2x256x512) off' S1x256x512.size inb')).Stores Finset.univ} {hm : _}
    {α : Type} {Q : α → sProp 𝕄} {p : PUnit → Prog (TpuEff nD τ sig (Elt F) Λ₀ .tc) α} :
    (((c : Thread nD τ).loc cc0_stg5_0) ↦{fullShare} f)
      ⊢ iprop(((((c : Thread nD τ).loc cc0_stg5_0) ↦{fullShare} fun i : S2x256x512.Idx => if (i 0).val = b.val then w (inRow i) else f i) -∗ run c (p ⟨⟩) Q)
      -∗ run c (.op (.load oM (Rect.unit (s := S2x256x512) off S1x256x512.size inb).toLoadRect hl) fun _ =>
          .op (.store oM (Rect.unit (s := S2x256x512) off' S1x256x512.size inb') w Finset.univ hst hm) p) Q) := by
  subst hoff; subst hoff'
  iintro H Hk
  iapply (wp_load 𝒱₀ (c : Thread nD τ) none Set.univ (m := oM) (Finset.subset_univ _)) $$ H; iintro H
  iapply (wp_store 𝒱₀ (c : Thread nD τ) none Set.univ (m := oM) (r := Rect.unit (s := S2x256x512) ![b.val, 0, 0] S1x256x512.size inb') (Mk := Finset.univ) (Finset.subset_univ _)) $$ H; iintro H
  have e : (oM.access (Rect.unit (s := S2x256x512) ![b.val, 0, 0] S1x256x512.size inb')).write (Elt F) f w Finset.univ
      = fun i : S2x256x512.Idx => if (i 0).val = b.val then w (inRow i) else f i := funext fun i => written_o b f w i
  rw [e]
  iapply Hk
  iexact H

theorem part23 (c : Dev nD) {f : S2x256x512.Idx → Elt F .f32} {Q : _ → sProp 𝕄} :
    (((c : Thread nD τ).loc cc0_stg5_0) ↦{fullShare} f) ⊢ iprop((oOut m ρ c -∗ Q ⟨(Scalar.addi (my c) 1#32), 3#32⟩)
      -∗ run c (k0_part23 (F := F) xM (hW _) wqM (hW _) kiM (hW _) viM (hW _) woM (hW _) oM (hW _) kM (hW _) vM (hW _) cc0_scratch2 cc0_scratch3 cc0_scratch4 cc0_scratch5 cc0_scoped0
          (my c) (woS m ρ c) (lS m ρ c 2 1 3) (aS m ρ c 2 1 3) (lS m ρ c 3 0 0) (aS m ρ c 3 0 0) (lS m ρ c 3 0 1) (aS m ρ c 3 0 1) (lS m ρ c 3 0 2) (aS m ρ c 3 0 2) (lS m ρ c 3 0 3) (aS m ρ c 3 0 3) (kvS m ρ true c 3 1) (lS m ρ c 3 1 0) (aS m ρ c 3 1 0) (lS m ρ c 3 1 1) (aS m ρ c 3 1 1) (lS m ρ c 3 1 2) (aS m ρ c 3 1 2) (alS m ρ c 2 1 3) (dS m ρ c 3 1 3)) Q) := by
  rw [k0_part23_eq_skeleton]; unfold k0_part23_skel
  simp only [Prog.lift, Prog.bind_op, Prog.bind_ret, Prog.pure_eq_ret, row0, row1]
  iintro H Hk
  iapply (store_row c 0 rfl rfl) $$ H; iintro H
  iapply (store_row c 1 rfl rfl) $$ H; iintro H
  iapply (run_ret c _ Q)
  iapply Hk
  unfold oOut
  have e : (fun i : S2x256x512.Idx => if (i 0).val = (1 : Fin 2).val then outS m ρ c 1 (inRow i)
      else if (i 0).val = (0 : Fin 2).val then outS m ρ c 0 (inRow i) else f i) = outAt m ρ c := by
    funext i
    have hr : outAt m ρ c i = outS m ρ c (i 0) (inRow i) := rfl
    have h2 : (i 0).val < 2 := (i 0).isLt
    by_cases h : (i 0).val = 1
    · have h1 : i 0 = (1 : Fin 2) := Fin.ext h
      exact (if_pos h).trans (by rw [hr, h1])
    · have h0 : (i 0).val = 0 := by omega
      have h1 : i 0 = (0 : Fin 2) := Fin.ext h0
      exact (if_neg h).trans ((if_pos h0).trans (by rw [hr, h1]))
  rw [e]
  iexact H

end Cert.Attn

end
-- ==== Proof.Kern.Comm.lean ====
/-
# The parts of the body that communicate

The barrier, the six transfers, the waits for what arrives, the waits for what was sent, the closing handshake.
-/
module

public import proofs.«01_k».proof.Proof.Kern.Fill

@[expose] public section

set_option maxRecDepth 16384

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

variable (K : Dev nD × Fin 16 → ℕ)

/-! ## Waiting for a block -/

/-- What a wait for the blocks of slot `o` needs, and what it leaves. -/
def Before (c o : Dev nD) (O : CellTallies nD τ sig Unit) : sProp 𝕄 :=
  iprop(records m ρ K ∗ levAts L lv ∗ Due m ρ false c o ∗ Due m ρ true c o ∗ owe c O)
def After (c o : Dev nD) (O : CellTallies nD τ sig Unit) : sProp 𝕄 :=
  iprop(At m ρ false c o ∗ At m ρ true c o ∗ owe c O ∗ semVal (kcell (c, rx false o)) 0 ∗ semVal (kcell (c, rx true o)) 0)

/-- A wait on a transfer of a slot is a wait for the slot's credit. -/
theorem wait_k (c : Dev nD) {sem : DmaSem sig} {off off' : Fin 4 → ℕ} {inb inb'}
    {hs : (slotM kM off inb).view.WordExact} {hd : (slotM kM off' inb').view.WordExact} (P : PUnit → sProp 𝕄) :
    wpE (defs₀ (F := F)) 𝒱₀ (c : Thread nD τ) none Set.univ (.waitDma2 sem (slotM kM off inb) (slotM kM off' inb') hs hd) P
      = waitSpec (c : Thread nD τ) Set.univ (.dma sem) N P :=
  (wpE_waitDma2_eq 𝒱₀ (c : Thread nD τ) none Set.univ P).trans (congrArg (fun n => waitSpec (c : Thread nD τ) Set.univ (.dma sem) n P) (credit_k off' inb'))
theorem wait_v (c : Dev nD) {sem : DmaSem sig} {off off' : Fin 4 → ℕ} {inb inb'}
    {hs : (slotM vM off inb).view.WordExact} {hd : (slotM vM off' inb').view.WordExact} (P : PUnit → sProp 𝕄) :
    wpE (defs₀ (F := F)) 𝒱₀ (c : Thread nD τ) none Set.univ (.waitDma2 sem (slotM vM off inb) (slotM vM off' inb') hs hd) P
      = waitSpec (c : Thread nD τ) Set.univ (.dma sem) N P :=
  (wpE_waitDma2_eq 𝒱₀ (c : Thread nD τ) none Set.univ P).trans (congrArg (fun n => waitSpec (c : Thread nD τ) Set.univ (.dma sem) n P) (credit_v off' inb'))

/-- The wait for the blocks of slot `o`, and a result. -/
theorem wait_block (c o : Dev nD) {v : BitVec 1} (hv : v = 1#1 ↔ o.val < c.val) (O : CellTallies nD τ sig Unit) (hO : Above 2 O)
    {w w' : v = 1#1 → TpuEff nD τ sig (Elt F) Λ₀ .tc PUnit} {s s' : SemLoc sig} (hs : s = csem (rx false o)) (hs' : s' = csem (rx true o))
    (hw : ∀ h (P : PUnit → sProp 𝕄), wpE (defs₀ (F := F)) 𝒱₀ (c : Thread nD τ) none Set.univ (w h) P = waitSpec (c : Thread nD τ) Set.univ s N P)
    (hw' : ∀ h (P : PUnit → sProp 𝕄), wpE (defs₀ (F := F)) 𝒱₀ (c : Thread nD τ) none Set.univ (w' h) P = waitSpec (c : Thread nD τ) Set.univ s' N P)
    {α : Type} {Q : α → sProp 𝕄} {a b : α} (hab : a = b) :
    Before m ρ K c o O ⊢ iprop((After m ρ c o O -∗ Q b)
      -∗ run c (if h : v = 1#1 then .op (w h) fun _ => .op (w' h) fun _ => .ret a else .ret a) Q) := by
  subst hab
  unfold Before After
  iintro H Hk
  iapply (receipts m ρ K c o hv O hO hs hs' hw hw') $$ H; iintro H
  iapply (run_ret c _ Q)
  iapply Hk
  iexact H

theorem sgt2 (c : Dev nD) : Scalar.cmpi .ne (Scalar.extui (Scalar.cmpi .sgt (my c) 2#32) : BitVec 32) 0#32 = 1#1 ↔ (2 : Dev nD).val < c.val := by
  revert c; decide

theorem part8 (c : Dev nD) {Q : _ → sProp 𝕄} :
    Before m ρ K c 2 (oweEnd c) ⊢ iprop((After m ρ c 2 (oweEnd c) -∗ Q ⟨(mS m ρ c 0 1 2), (lS m ρ c 0 1 2), (aS m ρ c 0 1 2), (mS m ρ c 0 1 3), (lS m ρ c 0 1 3), (aS m ρ c 0 1 3), (Scalar.cmpi .sgt (my c) 2#32), 64#32, (k0_pay62 iCol), (k0_pay63 iCol), (Scalar.cmpi .sgt 64#32 0#32)⟩)
      -∗ run c (k0_part8 (F := F) xM (hW _) wqM (hW _) kiM (hW _) viM (hW _) woM (hW _) oM (hW _) kM (hW _) vM (hW _) cc0_scratch2 cc0_scratch3 cc0_scratch4 cc0_scratch5 cc0_scoped0
          (my c) (qS m ρ c 1) iCol (mk c 0) (kvS m ρ false c 0 1) (kvS m ρ true c 0 1)) Q) := by
  rw [k0_part8_eq_skeleton]; unfold k0_part8_skel
  simp only [Prog.lift, Prog.bind_op, Prog.bind_ret, Prog.pure_eq_ret]
  exact wait_block m ρ K c 2 (sgt2 c) (oweEnd c) (above_end (by decide) c) (by rfl) (by rfl)
    (fun _ P => wait_k c P) (fun _ P => wait_v c P) rfl

theorem sgt1 (c : Dev nD) : Scalar.cmpi .ne (Scalar.extui (Scalar.cmpi .sgt (my c) 1#32) : BitVec 32) 0#32 = 1#1 ↔ (1 : Dev nD).val < c.val := by
  revert c; decide

theorem part13 (c : Dev nD) {Q : _ → sProp 𝕄} :
    Before m ρ K c 1 (oweEnd c) ⊢ iprop((After m ρ c 1 (oweEnd c) -∗ Q ⟨(aS m ρ c 1 1 2), (mS m ρ c 1 1 3), (lS m ρ c 1 1 3), (aS m ρ c 1 1 3), (Scalar.cmpi .sgt (my c) 1#32), (k0_pay124 iCol), (k0_pay125 iCol), (k0_pay126 iCol)⟩)
      -∗ run c (k0_part13 (F := F) xM (hW _) wqM (hW _) kiM (hW _) viM (hW _) woM (hW _) oM (hW _) kM (hW _) vM (hW _) cc0_scratch2 cc0_scratch3 cc0_scratch4 cc0_scratch5 cc0_scoped0
          (my c) (qS m ρ c 1) iCol (mS m ρ c 0 1 3) (lS m ρ c 0 1 3) (aS m ρ c 0 1 3) (mk c 1) (kvS m ρ false c 1 1) (kvS m ρ true c 1 1) (scaleS (alS m ρ c 0 1 2) (aS m ρ c 0 1 2)) (truncf .bf16 (pS m ρ c 1 1 2) bitsLt_bf16_f32) (head 2 (kvS m ρ true c 1 1))) Q) := by
  rw [k0_part13_eq_skeleton]; unfold k0_part13_skel
  simp only [Prog.lift, Prog.bind_op, Prog.bind_ret, Prog.pure_eq_ret]
  exact wait_block m ρ K c 1 (sgt1 c) (oweEnd c) (above_end (by decide) c) (by rfl) (by rfl)
    (fun _ P => wait_k c P) (fun _ P => wait_v c P) rfl

theorem sgt0 (c : Dev nD) : Scalar.cmpi .ne (Scalar.extui (Scalar.cmpi .sgt (my c) 0#32) : BitVec 32) 0#32 = 1#1 ↔ (0 : Dev nD).val < c.val := by
  revert c; decide

theorem part18 (c : Dev nD) {Q : _ → sProp 𝕄} :
    Before m ρ K c 0 (oweEnd c) ⊢ iprop((After m ρ c 0 (oweEnd c) -∗ Q ⟨(mS m ρ c 2 1 3), (lS m ρ c 2 1 3), (aS m ρ c 2 1 3), (Scalar.cmpi .sgt (my c) 0#32), (k0_pay187 iCol), 0#32⟩)
      -∗ run c (k0_part18 (F := F) xM (hW _) wqM (hW _) kiM (hW _) viM (hW _) woM (hW _) oM (hW _) kM (hW _) vM (hW _) cc0_scratch2 cc0_scratch3 cc0_scratch4 cc0_scratch5 cc0_scoped0
          (my c) iCol (mS m ρ c 1 1 3) (lS m ρ c 1 1 3) (aS m ρ c 1 1 3) (mk c 2) (kvS m ρ true c 2 1) (dotS m ρ c 2 1 3) maskS) Q) := by
  rw [k0_part18_eq_skeleton]; unfold k0_part18_skel
  simp only [Prog.lift, Prog.bind_op, Prog.bind_ret, Prog.pure_eq_ret]
  exact wait_block m ρ K c 0 (sgt0 c) (oweEnd c) (above_end (by decide) c) (by rfl) (by rfl)
    (fun _ P => wait_k c P) (fun _ P => wait_v c P) rfl

/-! ## The barrier and the transfers -/

theorem dev1 (c : Dev nD) : (⟨k0_dev1 c, k0_dev1_lt c⟩ : Dev nD) = rot c 1 := by revert c; decide
theorem dev2 (c : Dev nD) : (⟨k0_dev2 c, k0_dev2_lt c⟩ : Dev nD) = rot c 2 := by revert c; decide
theorem dev3 (c : Dev nD) : (⟨k0_dev3 c, k0_dev3_lt c⟩ : Dev nD) = rot c 3 := by revert c; decide
theorem dev4 (c : Dev nD) (h : k0_cond4 c = 1#1) : (⟨k0_dev4 c, k0_dev4_lt c h⟩ : Dev nD) = rot c 1 := by revert c; decide
theorem dev5 (c : Dev nD) (h : k0_cond4 c = 1#1) : (⟨k0_dev5 c, k0_dev5_lt c h⟩ : Dev nD) = rot c 1 := by revert c; decide
theorem dev6 (c : Dev nD) (h : k0_cond5 c = 1#1) : (⟨k0_dev6 c, k0_dev6_lt c h⟩ : Dev nD) = rot c 2 := by revert c; decide
theorem dev7 (c : Dev nD) (h : k0_cond5 c = 1#1) : (⟨k0_dev7 c, k0_dev7_lt c h⟩ : Dev nD) = rot c 2 := by revert c; decide
theorem dev8 (c : Dev nD) (h : k0_cond6 c = 1#1) : (⟨k0_dev8 c, k0_dev8_lt c h⟩ : Dev nD) = rot c 3 := by revert c; decide
theorem dev9 (c : Dev nD) (h : k0_cond6 c = 1#1) : (⟨k0_dev9 c, k0_dev9_lt c h⟩ : Dev nD) = rot c 3 := by revert c; decide
theorem dev10 (c : Dev nD) : (⟨k0_dev10 c, k0_dev10_lt c⟩ : Dev nD) = rot c 1 := by revert c; decide
theorem dev11 (c : Dev nD) : (⟨k0_dev11 c, k0_dev11_lt c⟩ : Dev nD) = rot c 2 := by revert c; decide
theorem dev12 (c : Dev nD) : (⟨k0_dev12 c, k0_dev12_lt c⟩ : Dev nD) = rot c 3 := by revert c; decide

theorem cond4 (c : Dev nD) : k0_cond4 c = 1#1 ↔ c.val + (0 : Fin 3).val + 1 < 4 := by revert c; decide
theorem cond5 (c : Dev nD) : k0_cond5 c = 1#1 ↔ c.val + (1 : Fin 3).val + 1 < 4 := by revert c; decide
theorem cond6 (c : Dev nD) : k0_cond6 c = 1#1 ↔ c.val + (2 : Fin 3).val + 1 < 4 := by revert c; decide
theorem cond10 (c : Dev nD) : k0_cond10 c = 1#1 ↔ c.val + (0 : Fin 3).val + 1 < 4 := by revert c; decide
theorem cond11 (c : Dev nD) : k0_cond11 c = 1#1 ↔ c.val + (1 : Fin 3).val + 1 < 4 := by revert c; decide
theorem cond12 (c : Dev nD) : k0_cond12 c = 1#1 ↔ c.val + (2 : Fin 3).val + 1 < 4 := by revert c; decide

/-- The token by which device `c` pays into a handshake's cell of the device `d` places on. -/
abbrev barTok (c : Dev nD) (k : Fin 16) (d : ℕ) : sProp 𝕄 := dutyTok ER (kcell (rot c d, k)) 0 c

/-- The tokens of the two transfers of lane `j`. -/
def laneToks (c : Dev nD) (j : Fin 3) : sProp 𝕄 :=
  iprop(dutyTok ER (kcell (c, sx false j)) 0 c ∗ dutyTok ER (kcell (c, sx true j)) 0 c
    ∗ dutyTok ER (kcell (rot c (j.val + 1), rx false c)) 0 c ∗ dutyTok ER (kcell (rot c (j.val + 1), rx true c)) 0 c)

/-- The share of the device's own slots that lane `j` reads. -/
def lend (c : Dev nD) (j : Fin 3) : sProp 𝕄 :=
  iprop(pts false c c (shr j.succ) (filled m ρ false c) ∗ pts true c c (shr j.succ) (filled m ρ true c))

/-- Both transfers of lane `j` under way. -/
def SentBoth (c : Dev nD) (j : Fin 3) : sProp 𝕄 := iprop(Sent m ρ false c j ∗ Sent m ρ true c j)

theorem part2 (c : Dev nD) (x y z : BitVec 32) {Q : _ → sProp 𝕄} :
    iprop(records m ρ K ∗ owe c (O₀ c) ∗ (barTok c 0 1 ∗ give c (rot c 1)) ∗ (barTok c 0 2 ∗ give c (rot c 2)))
      ⊢ iprop((∀ w, owe c (oweBar1 c) -∗ Q w)
      -∗ run c (k0_part2 (F := F) xM (hW _) wqM (hW _) kiM (hW _) viM (hW _) woM (hW _) oM (hW _) kM (hW _) vM (hW _) cc0_scratch2 cc0_scratch3 cc0_scratch4 cc0_scratch5 cc0_scoped0
          c (my c) (SemArray.scalar (sig.barrier 0 rfl)) x y z) Q) := by
  rw [k0_part2_eq_skeleton]; unfold k0_part2_skel
  simp only [semSignalWord, Prog.lift, Prog.bind_op, Prog.bind_ret, Prog.pure_eq_ret, dev1, dev2]
  iintro ⟨#HR, HO, ⟨T1, G1⟩, ⟨T2, G2⟩⟩ Hk
  iapply (signal m ρ K c (rot c 1) 0 (by decide) (mem_bar c 1 (by decide)).1 rfl (oweBar2 c) rfl) $$ [HO T1 G1]
  · isplitr; · iexact HR
    isplitl [HO]; · iexact HO
    isplitl [T1]; · iexact T1
    rw [payK_bar]; iexact G1
  iintro HO
  iapply (signal m ρ K c (rot c 2) 0 (by decide) (mem_bar c 2 (by decide)).1 rfl (oweBar1 c) rfl) $$ [HO T2 G2]
  · isplitr; · iexact HR
    isplitl [HO]; · iexact HO
    isplitl [T2]; · iexact T2
    rw [payK_bar]; iexact G2
  iintro HO
  iapply (run_ret c _ Q)
  iapply Hk
  iexact HO

/-- One lane's transfers, from their packages. -/
theorem send_lane (c : Dev nD) (j : Fin 3) {v : BitVec 1} (hv : v = 1#1 ↔ c.val + j.val + 1 < 4) (O : CellTallies nD τ sig Unit)
    {off : Fin 4 → ℕ} {inb : v = 1#1 → ∀ a, off a + S1x2x256x256.size a ≤ S4x2x256x256.size a} (hoff : off = ![c.val, 0, 0, 0])
    {n n' : v = 1#1 → Dev nD} (hn : ∀ h, n h = rot c (j.val + 1)) (hn' : ∀ h, n' h = rot c (j.val + 1))
    {s1 t1 : DmaSem sig} {s2 t2 : v = 1#1 → DmaSem sig} (h1 : SemLoc.dma s1 = csem (sx false j)) (h2 : ∀ h, SemLoc.dma (s2 h) = csem (rx false c))
    (g1 : SemLoc.dma t1 = csem (sx true j)) (g2 : ∀ h, SemLoc.dma (t2 h) = csem (rx true c))
    {hsc : ∀ h, (slotM kM off (inb h) : Memref sig (Dev.tc (n h) : Thread nD τ).2.kind .vmem S2x256x256 .bf16).view.ref.isScScratch = false}
    {hsrc : ∀ h, (slotM kM off (inb h)).view.WordExact} {hdst : ∀ h, (slotM kM off (inb h)).view.WordExact}
    {hsem : ∀ h, DmaTarget.Typed .vmem (.dma (s2 h)) (.remote (Dev.tc (n h) : Thread nD τ) (slotM kM off (inb h) : Memref sig .tc .vmem S2x256x256 .bf16) (.dma s1) (hsc h))}
    {hsc' : ∀ h, (slotM vM off (inb h) : Memref sig (Dev.tc (n' h) : Thread nD τ).2.kind .vmem S2x256x256 .bf16).view.ref.isScScratch = false}
    {hsrc' : ∀ h, (slotM vM off (inb h)).view.WordExact} {hdst' : ∀ h, (slotM vM off (inb h)).view.WordExact}
    {hsem' : ∀ h, DmaTarget.Typed .vmem (.dma (t2 h)) (.remote (Dev.tc (n' h) : Thread nD τ) (slotM vM off (inb h) : Memref sig .tc .vmem S2x256x256 .bf16) (.dma t1) (hsc' h))}
    {α : Type} {Q : α → sProp 𝕄} {k : Prog (TpuEff nD τ sig (Elt F) Λ₀ .tc) α} :
    iprop(records m ρ K ∗ lend m ρ c j ∗ give (rot c (j.val + 1)) c ∗ owe c (O + lane c (j.val + 1) true + lane c (j.val + 1) false) ∗ laneToks c j)
      ⊢ iprop(((SentBoth m ρ c j ∗ owe c O) -∗ run c k Q)
          -∗ run c (if h : v = 1#1 then
              .op (.enqueueDma (slotM kM off (inb h)) (.remote (Dev.tc (n h) : Thread nD τ) (slotM kM off (inb h)) (.dma s1) (hsc h)) (.dma (s2 h)) (hsrc h) (hdst h) (hsem h)) fun _ =>
              .op (.enqueueDma (slotM vM off (inb h)) (.remote (Dev.tc (n' h) : Thread nD τ) (slotM vM off (inb h)) (.dma t1) (hsc' h)) (.dma (t2 h)) (hsrc' h) (hdst' h) (hsem' h)) fun _ =>
              k
            else k) Q) := by
  unfold lend laneToks SentBoth
  iintro ⟨HR, ⟨L1, L2⟩, G, HO, HT⟩ Hk
  iapply (sends m ρ K c j hv O hoff hn hn' h1 h2 g1 g2) $$ [HR L1 L2 G HO HT]
  · isplitl [HR]; · iexact HR
    isplitl [L1]; · iexact L1
    isplitl [L2]; · iexact L2
    isplitl [G]; · iexact G
    isplitl [HO]; · iexact HO
    iexact HT
  iintro ⟨S1, S2, HO⟩
  iapply Hk
  isplitl [S1 S2]
  · isplitl [S1] <;> iassumption
  · iexact HO

/-- The staged activations and weights. -/
def xIn (c : Dev nD) : sProp 𝕄 := ((c : Thread nD τ).loc cc0_stg0_0) ↦{fullShare} xstg m ρ c
def wqIn (c : Dev nD) : sProp 𝕄 := ((c : Thread nD τ).loc cc0_stg1_0) ↦{fullShare} wqstg m ρ c

/-- The receive semaphores that device `c`'s blocks arrive at. -/
theorem recv_sem (c : Dev nD) : ∀ off : Fin 1 → ℕ, off = ![c.val] → ∀ (inb : ∀ a, off a + S1.size a ≤ S4.size a),
    SemLoc.dma (((cc0_scratch4.slice (Rect.unit (s := S4) off S1.size inb)).squeeze S_ squeezes_S1_S_).sem) = csem (rx false c)
      ∧ SemLoc.dma (((cc0_scratch5.slice (Rect.unit (s := S4) off S1.size inb)).squeeze S_ squeezes_S1_S_).sem) = csem (rx true c) := by
  rintro off rfl inb
  revert inb; revert c
  decide

/-- The loads of the query weights and of the two rows of the sequence, and a result computed from them. -/
theorem query_ret (c : Dev nD) {off off' : Fin 3 → ℕ}
    {inb : ∀ a, off a + S1x256x512.size a ≤ S2x256x512.size a} {inb' : ∀ a, off' a + S1x256x512.size a ≤ S2x256x512.size a} {hw : _} {hl : _} {hl' : _}
    {α : Type} {Q : α → sProp 𝕄} {f : Vec F S512x256 .bf16 → Vec F S1x256x512 .bf16 → Vec F S1x256x512 .bf16 → α} {w : Vec F S512x256 .bf16} {a : α}
    (e : w = wqstg m ρ c)
    (h : f w (xM.view.readAt (Elt F) (Rect.unit (s := S2x256x512) off S1x256x512.size inb).toLoadRect (xstg m ρ c))
      (xM.view.readAt (Elt F) (Rect.unit (s := S2x256x512) off' S1x256x512.size inb').toLoadRect (xstg m ρ c)) = a) :
    iprop(xIn m ρ c ∗ wqIn m ρ c) ⊢ iprop(((xIn m ρ c ∗ wqIn m ρ c) -∗ Q a)
      -∗ run c (.op (.load wqM (Rect.unit (s := S512x256) ![0, 0] S512x256.size inb_S512x256_S512x256_0_0).toLoadRect hw) fun z =>
          .op (.load xM (Rect.unit (s := S2x256x512) off S1x256x512.size inb).toLoadRect hl) fun x =>
          .op (.load xM (Rect.unit (s := S2x256x512) off' S1x256x512.size inb').toLoadRect hl') fun y => .ret (f z x y)) Q) := by
  have e' : wqM.view.readAt (Elt F) (Rect.unit (s := S512x256) ![0, 0] S512x256.size inb_S512x256_S512x256_0_0).toLoadRect (wqstg m ρ c)
      = w := (Memref.readAt_unit_zero (Elt F) cc0_stg1_0 hz2 _ _).trans e.symm
  subst h
  unfold xIn wqIn
  iintro ⟨HX, HW⟩ Hk
  iapply (wp_load 𝒱₀ (c : Thread nD τ) none Set.univ (m := wqM) (Finset.subset_univ _)) $$ HW; iintro HW
  rw [e']
  iapply (wp_load 𝒱₀ (c : Thread nD τ) none Set.univ (m := xM) (Finset.subset_univ _)) $$ HX; iintro HX
  iapply (wp_load 𝒱₀ (c : Thread nD τ) none Set.univ (m := xM) (Finset.subset_univ _)) $$ HX; iintro HX
  iapply (run_ret c _ Q)
  iapply Hk
  isplitl [HX] <;> iassumption

theorem part3 (c : Dev nD) (x : BitVec 32) {Q : _ → sProp 𝕄} :
    iprop(records m ρ K ∗ levAts L lv ∗ owe c (oweBar1 c) ∗ (barTok c 0 3 ∗ give c (rot c 3))
        ∗ (cred (tallyAt (kcell (c, 0)) () 3) ∗ atPos ER (kcell (c, 0)) 0 ∅ 0)
        ∗ (lend m ρ c 0 ∗ laneToks c 0) ∗ (lend m ρ c 1 ∗ laneToks c 1) ∗ (lend m ρ c 2 ∗ laneToks c 2)
        ∗ xIn m ρ c ∗ wqIn m ρ c)
      ⊢ iprop(((owe c (oweEnd c) ∗ semVal (kcell (c, 0)) 0 ∗ SentBoth m ρ c 0 ∗ SentBoth m ρ c 1 ∗ SentBoth m ρ c 2 ∗ xIn m ρ c ∗ wqIn m ρ c)
          -∗ Q ⟨qS m ρ c 0, qS m ρ c 1, iRow, iCol, Scalar.muli (my c) 4#32⟩)
      -∗ run c (k0_part3 (F := F) xM (hW _) wqM (hW _) kiM (hW _) viM (hW _) woM (hW _) oM (hW _) kM (hW _) vM (hW _) cc0_scratch2 cc0_scratch3 cc0_scratch4 cc0_scratch5 cc0_scoped0
          c (my c) (SemArray.scalar (sig.barrier 0 rfl)) x) Q) := by
  rw [k0_part3_eq_skeleton]; unfold k0_part3_skel
  simp only [semSignalWord, semWaitWord, Prog.lift, Prog.bind_op, Prog.bind_ret, Prog.pure_eq_ret, dev3]
  iintro ⟨#HR, #HL, HO, ⟨T3, G3⟩, ⟨HC, HA⟩, ⟨L0, T0⟩, ⟨L1, T1⟩, ⟨L2, T2⟩, HX, HW⟩ Hk
  iapply (signal m ρ K c (rot c 3) 0 (by decide) (mem_bar c 3 (by decide)).1 rfl (oweLane c) rfl) $$ [HO T3 G3]
  · isplitr; · iexact HR
    isplitl [HO]; · iexact HO
    isplitl [T3]; · iexact T3
    rw [payK_bar]; iexact G3
  iintro HO
  iapply (wait m ρ K c 0 rfl (wpE_semWait_eq 𝒱₀ (c : Thread nD τ) none Set.univ) (by rw [(card_bar c).1]; rfl) (oweLane c) (n := 1) (above_lane (by decide) c) (by decide)) $$ [HC HO HA]
  · isplitr; · iexact HR
    isplitr; · iexact HL
    isplitl [HC]; · iexact HC
    isplitl [HO] <;> iassumption
  rw [rest_bar]
  iintro ⟨HO, HV, ⟨G1, G2, G3⟩⟩
  iapply (send_lane m ρ K c 0 (cond4 c) (oweLane2 c) (k0_off3_eq c) (dev4 c) (dev5 c) (by rfl) (fun h => (recv_sem c _ (k0_off2_eq c) _).1)
    (by rfl) (fun h => (recv_sem c _ (k0_off2_eq c) _).2)) $$ [L0 G1 HO T0]
  · isplitr; · iexact HR
    isplitl [L0]; · iexact L0
    isplitl [G1]; · iexact G1
    isplitl [HO]; · iexact HO
    iexact T0
  iintro ⟨S0, HO⟩
  iapply (send_lane m ρ K c 1 (cond5 c) (oweLane3 c) (k0_off5_eq c) (dev6 c) (dev7 c) (by rfl) (fun h => (recv_sem c _ (k0_off4_eq c) _).1)
    (by rfl) (fun h => (recv_sem c _ (k0_off4_eq c) _).2)) $$ [L1 G2 HO T1]
  · isplitr; · iexact HR
    isplitl [L1]; · iexact L1
    isplitl [G2]; · iexact G2
    isplitl [HO]; · iexact HO
    iexact T1
  iintro ⟨S1, HO⟩
  iapply (send_lane m ρ K c 2 (cond6 c) (oweEnd c) (k0_off7_eq c) (dev8 c) (dev9 c) (by rfl) (fun h => (recv_sem c _ (k0_off6_eq c) _).1)
    (by rfl) (fun h => (recv_sem c _ (k0_off6_eq c) _).2)) $$ [L2 G3 HO T2]
  · isplitr; · iexact HR
    isplitl [L2]; · iexact L2
    isplitl [G3]; · iexact G3
    isplitl [HO]; · iexact HO
    iexact T2
  iintro ⟨S2, HO⟩
  iapply (query_ret m ρ c (Q := Q) (a := ⟨qS m ρ c 0, qS m ρ c 1, iRow, iCol, Scalar.muli (my c) 4#32⟩) rfl (by rfl)) $$ [HX HW]
  · isplitl [HX] <;> iassumption
  iintro ⟨HX, HW⟩
  iapply Hk
  isplitl [HO]; · iexact HO
  isplitl [HV]; · iexact HV
  isplitl [S0]; · iexact S0
  isplitl [S1]; · iexact S1
  isplitl [S2]; · iexact S2
  isplitl [HX]; · iexact HX
  iexact HW

/-! ## The end -/

/-- The two places of device `c` in the waits for lane `j`'s transfers, and the two semaphores afterwards. -/
def sendAts (c : Dev nD) (j : Fin 3) : sProp 𝕄 := iprop(atPos ER (kcell (c, sx false j)) 0 ∅ 0 ∗ atPos ER (kcell (c, sx true j)) 0 ∅ 0)
def sendZeros (c : Dev nD) (j : Fin 3) : sProp 𝕄 := iprop(semVal (kcell (c, sx false j)) 0 ∗ semVal (kcell (c, sx true j)) 0)

/-- One lane's waits, from their packages. -/
theorem wait_lane (c : Dev nD) (j : Fin 3) {v : BitVec 1} (hv : v = 1#1 ↔ c.val + j.val + 1 < 4) (O : CellTallies nD τ sig Unit) (hO : Above 0 O)
    {w w' : v = 1#1 → TpuEff nD τ sig (Elt F) Λ₀ .tc PUnit} {s s' : SemLoc sig} (hs : s = csem (sx false j)) (hs' : s' = csem (sx true j))
    (hw : ∀ h (P : PUnit → sProp 𝕄), wpE (defs₀ (F := F)) 𝒱₀ (c : Thread nD τ) none Set.univ (w h) P = waitSpec (c : Thread nD τ) Set.univ s N P)
    (hw' : ∀ h (P : PUnit → sProp 𝕄), wpE (defs₀ (F := F)) 𝒱₀ (c : Thread nD τ) none Set.univ (w' h) P = waitSpec (c : Thread nD τ) Set.univ s' N P)
    {α : Type} {Q : α → sProp 𝕄} {k : Prog (TpuEff nD τ sig (Elt F) Λ₀ .tc) α} :
    iprop(records m ρ K ∗ levAts L lv ∗ SentBoth m ρ c j ∗ owe c O ∗ sendAts c j)
      ⊢ iprop(((lend m ρ c j ∗ owe c O ∗ sendZeros c j) -∗ run c k Q)
          -∗ run c (if h : v = 1#1 then .op (w h) fun _ => .op (w' h) fun _ => k else k) Q) := by
  unfold SentBoth lend sendAts sendZeros
  iintro ⟨HR, HL, ⟨S1, S2⟩, HO, HA⟩ Hk
  iapply (send_waits m ρ K c j hv O hO hs hs' hw hw') $$ [HR HL S1 S2 HO HA]
  · isplitl [HR]; · iexact HR
    isplitl [HL]; · iexact HL
    isplitl [S1]; · iexact S1
    isplitl [S2]; · iexact S2
    isplitl [HO] <;> iassumption
  iintro ⟨L1, L2, HO, HZ⟩
  iapply Hk
  isplitl [L1 L2]
  · isplitl [L1] <;> iassumption
  isplitl [HO] <;> iassumption

theorem part24 (c : Dev nD) (x y : BitVec 32) {Q : _ → sProp 𝕄} :
    iprop(records m ρ K ∗ levAts L lv ∗ owe c (oweEnd c) ∗ barTok c 1 1
        ∗ (SentBoth m ρ c 0 ∗ sendAts c 0) ∗ (SentBoth m ρ c 1 ∗ sendAts c 1) ∗ (SentBoth m ρ c 2 ∗ sendAts c 2))
      ⊢ iprop((∀ w, (owe c (oweEnd2 c) ∗ (lend m ρ c 0 ∗ sendZeros c 0) ∗ (lend m ρ c 1 ∗ sendZeros c 1) ∗ (lend m ρ c 2 ∗ sendZeros c 2)) -∗ Q w)
      -∗ run c (k0_part24 (F := F) xM (hW _) wqM (hW _) kiM (hW _) viM (hW _) woM (hW _) oM (hW _) kM (hW _) vM (hW _) cc0_scratch2 cc0_scratch3 cc0_scratch4 cc0_scratch5 cc0_scoped0
          c (my c) x y) Q) := by
  rw [k0_part24_eq_skeleton]; unfold k0_part24_skel
  simp only [semSignalWord, semWaitWord, Prog.lift, Prog.bind_op, Prog.bind_ret, Prog.pure_eq_ret, dev10]
  iintro ⟨#HR, #HL, HO, HT, ⟨S0, A0⟩, ⟨S1, A1⟩, ⟨S2, A2⟩⟩ Hk
  iapply (wait_lane m ρ K c 0 (cond10 c) (oweEnd c) (above_end (by decide) c) (by rfl) (by rfl) (fun _ P => wait_k c P) (fun _ P => wait_v c P)) $$ [S0 HO A0]
  · isplitr; · iexact HR
    isplitr; · iexact HL
    isplitl [S0]; · iexact S0
    isplitl [HO] <;> iassumption
  iintro ⟨L0, HO, Z0⟩
  iapply (wait_lane m ρ K c 1 (cond11 c) (oweEnd c) (above_end (by decide) c) (by rfl) (by rfl) (fun _ P => wait_k c P) (fun _ P => wait_v c P)) $$ [S1 HO A1]
  · isplitr; · iexact HR
    isplitr; · iexact HL
    isplitl [S1]; · iexact S1
    isplitl [HO] <;> iassumption
  iintro ⟨L1, HO, Z1⟩
  iapply (wait_lane m ρ K c 2 (cond12 c) (oweEnd c) (above_end (by decide) c) (by rfl) (by rfl) (fun _ P => wait_k c P) (fun _ P => wait_v c P)) $$ [S2 HO A2]
  · isplitr; · iexact HR
    isplitr; · iexact HL
    isplitl [S2]; · iexact S2
    isplitl [HO] <;> iassumption
  iintro ⟨L2, HO, Z2⟩
  iapply (signal m ρ K c (rot c 1) 1 (by decide) (mem_bar c 1 (by decide)).2 rfl (oweEnd2 c) rfl) $$ [HO HT]
  · isplitr; · iexact HR
    isplitl [HO]; · iexact HO
    isplitl [HT]; · iexact HT
    rw [payK_end]; iempintro
  iintro HO
  iapply (run_ret c _ Q)
  iapply Hk
  isplitl [HO]; · iexact HO
  isplitl [L0 Z0]
  · isplitl [L0] <;> iassumption
  isplitl [L1 Z1]
  · isplitl [L1] <;> iassumption
  isplitl [L2] <;> iassumption

/-- The last two signals of the closing handshake and its wait. -/
theorem finish (c : Dev nD) {Q : PUnit → sProp 𝕄} :
    iprop(records m ρ K ∗ levAts L lv ∗ owe c (oweEnd2 c) ∗ barTok c 1 2 ∗ barTok c 1 3
        ∗ (cred (tallyAt (kcell (c, 1)) () 3) ∗ atPos ER (kcell (c, 1)) 0 ∅ 0))
      ⊢ iprop(((owe c 0 ∗ semVal (kcell (c, 1)) 0) -∗ Q ⟨⟩)
      -∗ run c (.op (.semSignal ((⟨k0_dev11 c, k0_dev11_lt c⟩ : Dev nD) : Thread nD τ) endS (1#32).toNat) fun _ =>
          .op (.semSignal ((⟨k0_dev12 c, k0_dev12_lt c⟩ : Dev nD) : Thread nD τ) endS (1#32).toNat) fun _ =>
          .op (.semWait endS (3#32).toNat) fun _ => .ret ⟨⟩) Q) := by
  rw [dev11, dev12]
  iintro ⟨#HR, #HL, HO, T2, T3, ⟨HC, HA⟩⟩ Hk
  iapply (signal m ρ K c (rot c 2) 1 (by decide) (mem_bar c 2 (by decide)).2 rfl (oweEnd1 c) rfl) $$ [HO T2]
  · isplitr; · iexact HR
    isplitl [HO]; · iexact HO
    isplitl [T2]; · iexact T2
    rw [payK_end]; iempintro
  iintro HO
  have e : oweEnd1 c = 0 + tallyAt (kcell (rot c 3, 1)) () 1 := (zero_add _).symm
  rw [e]
  iapply (signal m ρ K c (rot c 3) 1 (by decide) (mem_bar c 3 (by decide)).2 rfl 0 rfl) $$ [HO T3]
  · isplitr; · iexact HR
    isplitl [HO]; · iexact HO
    isplitl [T3]; · iexact T3
    rw [payK_end]; iempintro
  iintro HO
  iapply (wait m ρ K c 1 rfl (wpE_semWait_eq 𝒱₀ (c : Thread nD τ) none Set.univ) (by rw [(card_bar c).2]; rfl) 0 (n := 3) (Above.zero _) (by decide)) $$ [HC HO HA]
  · isplitr; · iexact HR
    isplitr; · iexact HL
    isplitl [HC]; · iexact HC
    isplitl [HO] <;> iassumption
  iintro ⟨HO, HV, HP⟩
  iapply (run_ret c _ Q)
  iapply Hk
  isplitl [HO] <;> iassumption

end Cert.Attn

end
-- ==== Proof.Kern.Slots.lean ====
/-
# The slots

How a device deals out its two buffers once it has filled them, and how it gathers them again at the end.
-/
module

public import proofs.«01_k».proof.Proof.Kern.Comm

@[expose] public section

set_option maxRecDepth 16384

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

variable (K : Dev nD × Fin 16 → ℕ)

/-! ## The slots -/

/-- A conjunction over the devices, seen from one of them. -/
theorem dev_split (c : Dev nD) (Φ : Dev nD → sProp 𝕄) :
    (bigSep Finset.univ Φ : sProp 𝕄) = iprop(Φ c ∗ Φ (rot c 1) ∗ Φ (rot c 2) ∗ Φ (rot c 3)) :=
  bigSep_univ_eq_bigSepL [c, rot c 1, rot c 2, rot c 3] (by revert c; decide) (by revert c; decide) Φ

theorem dev_list (Φ : Dev nD → sProp 𝕄) : (bigSep Finset.univ Φ : sProp 𝕄) = iprop(Φ 0 ∗ Φ 1 ∗ Φ 2 ∗ Φ 3) :=
  bigSep_univ_eq_bigSepL [0, 1, 2, 3] (by decide) (by decide) Φ

theorem rot_ne (c : Dev nD) : rot c 1 ≠ c ∧ rot c 2 ≠ c ∧ rot c 3 ≠ c := by revert c; decide

/-- What a device keeps of slot `o` from the start: nothing if an earlier device fills it. -/
def held (c o : Dev nD) : sProp 𝕄 := if o.val < c.val then iprop(emp) else iprop(At m ρ false c o ∗ At m ρ true c o)

/-- A slot of another device, of both buffers: handed over if that device fills it, kept otherwise. -/
theorem slot_other (c o : Dev nD) (ho : o ≠ c) {f g : S4x2x256x256.Idx → Elt F .bf16}
    (hf : ∀ i : S4x2x256x256.Idx, c.val ≤ (i 0).val → f i = filled m ρ false c i)
    (hg : ∀ i : S4x2x256x256.Idx, c.val ≤ (i 0).val → g i = filled m ρ true c i) :
    iprop(pts false c o fullShare f ∗ pts true c o fullShare g) ⊢ iprop(give c o ∗ held m ρ c o) := by
  unfold give held
  by_cases h : o.val < c.val
  · rw [if_pos h, if_pos h]
    iintro ⟨H1, H2⟩
    isplitl
    · isplitl [H1]
      · iexists f; iexact H1
      · iexists g; iexact H2
    · iempintro
  · rw [if_neg h, if_neg h]
    have hle : ∀ i : S4x2x256x256.Idx, (i 0).val = o.val → c.val ≤ (i 0).val := fun i hi => by omega
    unfold At keep
    rw [if_neg ho, pts_congr false c o fullShare (fun i hi => hf i (hle i hi)), pts_congr true c o fullShare (fun i hi => hg i (hle i hi))]
    iintro H
    isplitr; · iempintro
    iexact H

/-- The device's own slot: a quarter kept, a quarter for each lane. -/
theorem slot_own (c : Dev nD) {f g : S4x2x256x256.Idx → Elt F .bf16}
    (hf : ∀ i : S4x2x256x256.Idx, c.val ≤ (i 0).val → f i = filled m ρ false c i)
    (hg : ∀ i : S4x2x256x256.Idx, c.val ≤ (i 0).val → g i = filled m ρ true c i) :
    iprop(pts false c c fullShare f ∗ pts true c c fullShare g)
      ⊢ iprop((lend m ρ c 0 ∗ lend m ρ c 1 ∗ lend m ρ c 2) ∗ give c c ∗ held m ρ c c) := by
  have hle : ∀ i : S4x2x256x256.Idx, (i 0).val = c.val → c.val ≤ (i 0).val := fun i hi => by omega
  rw [pts_congr false c c fullShare (fun i hi => hf i (hle i hi)), pts_congr true c c fullShare (fun i hi => hg i (hle i hi))]
  unfold give held At keep lend
  rw [if_neg (lt_irrefl _), if_neg (lt_irrefl _), if_pos rfl]
  iintro ⟨H1, H2⟩
  ihave H1 := (pts_quarters false c c (filled m ρ false c)).1 $$ H1
  ihave H2 := (pts_quarters true c c (filled m ρ true c)).1 $$ H2
  icases H1 with ⟨⟨A0, A1⟩, A2, A3⟩
  icases H2 with ⟨⟨B0, B1⟩, B2, B3⟩
  isplitl [A1 A2 A3 B1 B2 B3]
  · isplitl [A1 B1]
    · isplitl [A1]
      · iexact A1
      · iexact B1
    isplitl [A2 B2]
    · isplitl [A2]
      · iexact A2
      · iexact B2
    isplitl [A3]
    · iexact A3
    · iexact B3
  isplitr; · iempintro
  isplitl [A0] <;> iassumption

/-- Both buffers, filled from the device's own slot on, are dealt out. -/
theorem deal (c : Dev nD) :
    iprop(Filled m ρ false c (fun n => c.val ≤ n) ∗ Filled m ρ true c (fun n => c.val ≤ n))
      ⊢ iprop((lend m ρ c 0 ∗ lend m ρ c 1 ∗ lend m ρ c 2) ∗ (give c (rot c 1) ∗ give c (rot c 2) ∗ give c (rot c 3))
        ∗ held m ρ c 0 ∗ held m ρ c 1 ∗ held m ρ c 2 ∗ held m ρ c 3) := by
  unfold Filled
  iintro ⟨⟨%f, %hf, H1⟩, ⟨%g, %hg, H2⟩⟩
  ihave H1 := (Entails.of_eq (whole_split false c f)) $$ H1
  ihave H2 := (Entails.of_eq (whole_split true c g)) $$ H2
  ihave H := (Entails.of_eq (bigSep_sep' Finset.univ (fun o : Dev nD => pts (F := F) false c o fullShare f) (fun o => pts true c o fullShare g)).symm) $$ [H1 H2]
  · isplitl [H1] <;> iassumption
  ihave H := (Entails.of_eq (dev_split c _)) $$ H
  icases H with ⟨O, S1, S2, S3⟩
  ihave O := (slot_own m ρ c hf hg) $$ O
  ihave S1 := (slot_other m ρ c (rot c 1) (rot_ne c).1 hf hg) $$ S1
  ihave S2 := (slot_other m ρ c (rot c 2) (rot_ne c).2.1 hf hg) $$ S2
  ihave S3 := (slot_other m ρ c (rot c 3) (rot_ne c).2.2 hf hg) $$ S3
  icases O with ⟨HL, -, O⟩
  icases S1 with ⟨G1, S1⟩
  icases S2 with ⟨G2, S2⟩
  icases S3 with ⟨G3, S3⟩
  isplitl [HL]; · iexact HL
  isplitl [G1 G2 G3]
  · isplitl [G1]; · iexact G1
    isplitl [G2] <;> iassumption
  iapply (Entails.of_eq (dev_list (held m ρ c)))
  iapply (Entails.of_eq (dev_split c (held m ρ c)).symm)
  isplitl [O]; · iexact O
  isplitl [S1]; · iexact S1
  isplitl [S2] <;> iassumption

/-- A slot with its final contents, and what of it was lent. -/
def back (c o : Dev nD) (b : Bool) : sProp 𝕄 :=
  if o = c then iprop(pts b c c (shr 1) (filled m ρ b c) ∗ pts b c c (shr 2) (filled m ρ b c) ∗ pts b c c (shr 3) (filled m ρ b c)) else iprop(emp)

theorem whole_again (b : Bool) (c o : Dev nD) : iprop(At m ρ b c o ∗ back m ρ c o b) ⊢ pts b c o fullShare (filled m ρ b c) := by
  unfold At back keep
  by_cases h : o = c
  · subst h
    rw [if_pos rfl, if_pos rfl]
    iintro ⟨H0, H1, H2, H3⟩
    iapply (pts_quarters b o o (filled m ρ b o)).2
    isplitl [H0 H1]
    · isplitl [H0] <;> iassumption
    isplitl [H2] <;> iassumption
  · rw [if_neg h, if_neg h]
    iintro ⟨H, -⟩
    iexact H

/-- The four slots and the lent shares are the buffer again. -/
theorem gather (b : Bool) (c : Dev nD) :
    iprop((pts b c c (shr 1) (filled m ρ b c) ∗ pts b c c (shr 2) (filled m ρ b c) ∗ pts b c c (shr 3) (filled m ρ b c))
        ∗ At m ρ b c 0 ∗ At m ρ b c 1 ∗ At m ρ b c 2 ∗ At m ρ b c 3)
      ⊢ whole b c (filled m ρ b c) := by
  rw [whole_split, ← dev_list (fun o => At m ρ b c o)]
  have hb : iprop(pts b c c (shr 1) (filled m ρ b c) ∗ pts b c c (shr 2) (filled m ρ b c) ∗ pts b c c (shr 3) (filled m ρ b c))
      ⊢ (bigSep Finset.univ fun o => back m ρ c o b : sProp 𝕄) := by
    rw [dev_split c]
    unfold back
    rw [if_pos rfl, if_neg ((rot_ne c).1), if_neg ((rot_ne c).2.1), if_neg ((rot_ne c).2.2)]
    iintro H
    isplitl [H]; · iexact H
    isplitr; · iempintro
    isplitr <;> iempintro
  iintro ⟨HB, HA⟩
  ihave HB := hb $$ HB
  iapply (show iprop((bigSep Finset.univ fun o => At m ρ b c o) ∗ (bigSep Finset.univ fun o => back m ρ c o b))
      ⊢ (bigSep Finset.univ fun o => pts b c o fullShare (filled m ρ b c) : sProp 𝕄) from by
    rw [← bigSep_sep']; exact bigSep_mono fun o _ => whole_again m ρ b c o)
  isplitl [HA] <;> iassumption

theorem gather_both (c : Dev nD) :
    iprop((lend m ρ c 0 ∗ lend m ρ c 1 ∗ lend m ρ c 2)
        ∗ (At m ρ false c 0 ∗ At m ρ true c 0) ∗ (At m ρ false c 1 ∗ At m ρ true c 1) ∗ (At m ρ false c 2 ∗ At m ρ true c 2) ∗ At m ρ false c 3 ∗ At m ρ true c 3)
      ⊢ iprop(whole false c (filled m ρ false c) ∗ whole true c (filled m ρ true c)) := by
  unfold lend
  iintro ⟨⟨⟨A1, B1⟩, ⟨A2, B2⟩, A3, B3⟩, ⟨C0, D0⟩, ⟨C1, D1⟩, ⟨C2, D2⟩, C3, D3⟩
  isplitl [A1 A2 A3 C0 C1 C2 C3]
  · iapply (gather m ρ false c)
    isplitl [A1 A2 A3]
    · isplitl [A1]; · iexact A1
      isplitl [A2]
      · iexact A2
      · iexact A3
    isplitl [C0]; · iexact C0
    isplitl [C1]; · iexact C1
    isplitl [C2] <;> iassumption
  · iapply (gather m ρ true c)
    isplitl [B1 B2 B3]
    · isplitl [B1]; · iexact B1
      isplitl [B2]
      · iexact B2
      · iexact B3
    isplitl [D0]; · iexact D0
    isplitl [D1]; · iexact D1
    isplitl [D2] <;> iassumption

end Cert.Attn

end
-- ==== Proof.Kern.Body.lean ====
/-
# The body

One run of the body on a device: the parts in turn, from the staged inputs, the two slot buffers and the protocol's tokens, to the staged result.
-/
module

public import proofs.«01_k».proof.Proof.Kern.Slots

@[expose] public section

set_option maxRecDepth 16384

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

variable (K : Dev nD × Fin 16 → ℕ)

/-- One part, then the rest. -/
theorem seq {c : Dev nD} {α β : Type} {P R : sProp 𝕄} {p : Prog (TpuEff nD τ sig (Elt F) Λ₀ .tc) α} {a : α}
    (h : ∀ {Q : α → sProp 𝕄}, P ⊢ iprop((R -∗ Q a) -∗ run c p Q))
    {k : α → Prog (TpuEff nD τ sig (Elt F) Λ₀ .tc) β} {Q : β → sProp 𝕄} :
    P ⊢ iprop((R -∗ run c (k a) Q) -∗ run c (p >>= k) Q) := by
  unfold run; rw [wp_bind]; exact h (Q := fun a => run c (k a) Q)

theorem seq_any {c : Dev nD} {α β : Type} {P R : sProp 𝕄} {p : Prog (TpuEff nD τ sig (Elt F) Λ₀ .tc) α}
    (h : ∀ {Q : α → sProp 𝕄}, P ⊢ iprop((∀ a, R -∗ Q a) -∗ run c p Q))
    {k : α → Prog (TpuEff nD τ sig (Elt F) Λ₀ .tc) β} {Q : β → sProp 𝕄} :
    P ⊢ iprop((∀ a, R -∗ run c (k a) Q) -∗ run c (p >>= k) Q) := by
  unfold run; rw [wp_bind]; exact h (Q := fun a => run c (k a) Q)

theorem seq_pure {c : Dev nD} {α β : Type} {p : Prog (TpuEff nD τ sig (Elt F) Λ₀ .tc) α} {a : α}
    (h : ∀ {Q : α → sProp 𝕄}, Q a ⊢ run c p Q)
    {k : α → Prog (TpuEff nD τ sig (Elt F) Λ₀ .tc) β} {Q : β → sProp 𝕄} :
    run c (k a) Q ⊢ run c (p >>= k) Q := by
  unfold run; rw [wp_bind]; exact h (Q := fun a => run c (k a) Q)

/-! ## What the body starts from and ends with -/

/-- The tokens of the duties device `c` pays. -/
def payToks (c : Dev nD) : sProp 𝕄 :=
  iprop((barTok c 0 1 ∗ barTok c 0 2 ∗ barTok c 0 3) ∗ (barTok c 1 1 ∗ barTok c 1 2 ∗ barTok c 1 3)
    ∗ laneToks c 0 ∗ laneToks c 1 ∗ laneToks c 2)

/-- The device's places at its cells. -/
def places (c : Dev nD) : sProp 𝕄 :=
  iprop((atPos ER (kcell (c, 0)) 0 ∅ 0 ∗ atPos ER (kcell (c, 1)) 0 ∅ 0) ∗ (sendAts c 0 ∗ sendAts c 1 ∗ sendAts c 2)
    ∗ (bigSep Finset.univ fun o : Dev nD => atPos ER (kcell (c, rx false o)) 0 ∅ 0)
    ∗ (bigSep Finset.univ fun o : Dev nD => atPos ER (kcell (c, rx true o)) 0 ∅ 0))

/-- The credit for slot `o` of buffer `b`, if an earlier device fills it. -/
def due (c : Dev nD) (b : Bool) (o : Dev nD) : sProp 𝕄 :=
  if o.val < c.val then iprop(cred (tallyAt (kcell (c, rx b o)) () N)) else iprop(emp)

/-- The credits device `c` is dealt. -/
def dues (c : Dev nD) : sProp 𝕄 :=
  iprop((cred (tallyAt (kcell (c, 0)) () 3) ∗ cred (tallyAt (kcell (c, 1)) () 3))
    ∗ (bigSep Finset.univ fun o : Dev nD => due c false o) ∗ (bigSep Finset.univ fun o : Dev nD => due c true o))

/-- The device's semaphores, at zero. -/
def zeros (c : Dev nD) : sProp 𝕄 :=
  iprop((semVal (kcell (c, 0)) 0 ∗ semVal (kcell (c, 1)) 0) ∗ (sendZeros c 0 ∗ sendZeros c 1 ∗ sendZeros c 2)
    ∗ (bigSep Finset.univ fun o : Dev nD => semVal (kcell (c, rx false o)) 0)
    ∗ (bigSep Finset.univ fun o : Dev nD => semVal (kcell (c, rx true o)) 0))

/-- The staged inputs. -/
def ins (c : Dev nD) : sProp 𝕄 := iprop(xIn m ρ c ∗ wqIn m ρ c ∗ kIn m ρ c ∗ vIn m ρ c ∗ woIn m ρ c)

theorem held_due (c o : Dev nD) :
    iprop(held m ρ c o ∗ (due c false o ∗ atPos ER (kcell (c, rx false o)) 0 ∅ 0) ∗ (due c true o ∗ atPos ER (kcell (c, rx true o)) 0 ∅ 0))
      ⊢ iprop(Due m ρ false c o ∗ Due m ρ true c o) := by
  unfold held due Due
  by_cases h : o.val < c.val
  · rw [if_pos h, if_pos h, if_pos h, if_pos h, if_pos h]
    iintro ⟨-, H1, H2⟩
    isplitl [H1] <;> iassumption
  · rw [if_neg h, if_neg h, if_neg h, if_neg h, if_neg h]
    iintro ⟨⟨H1, H2⟩, ⟨-, A1⟩, -, A2⟩
    isplitl [H1 A1]
    · isplitl [H1] <;> iassumption
    isplitl [H2] <;> iassumption

/-- The last slot is no receipt's: it is the device's own or a later one's. -/
theorem held_last (c : Dev nD) : held m ρ c 3 ⊢ iprop(At m ρ false c 3 ∗ At m ρ true c 3) := by
  unfold held
  rw [if_neg (show ¬ (3 : Dev nD).val < c.val by revert c; decide)]

theorem last_none (c : Dev nD) (b : Bool) : dutK c (rx b 3) = ∅ := by
  rw [dutK_rx, if_neg (show ¬ (3 : Dev nD).val < c.val by revert c; decide)]

theorem empty_filled (b : Bool) (c : Dev nD) : iprop(∃ f, whole b c f) ⊢ Filled m ρ b c (fun _ => False) := by
  unfold Filled
  iintro ⟨%f, H⟩
  iexists f
  isplitr; · (ipureintro; exact fun _ h => h.elim)
  iexact H

set_option maxHeartbeats 4000000 in
/-- The body on device `c`. -/
theorem body (c : Dev nD) {f : S2x256x512.Idx → Elt F .f32} {Q : PUnit → sProp 𝕄} :
    iprop(records m ρ K ∗ levAts L lv ∗ owe c (O₀ c) ∗ payToks c ∗ places c ∗ dues c
        ∗ (∃ f, whole false c f) ∗ (∃ f, whole true c f) ∗ ins m ρ c ∗ (((c : Thread nD τ).loc cc0_stg5_0) ↦{fullShare} f))
      ⊢ iprop(((owe c 0 ∗ zeros c ∗ (∃ f, whole false c f) ∗ (∃ f, whole true c f) ∗ ins m ρ c ∗ oOut m ρ c) -∗ Q ⟨⟩)
      -∗ run c (k0_part25 (F := F) xM (hW _) wqM (hW _) kiM (hW _) viM (hW _) woM (hW _) oM (hW _) kM (hW _) vM (hW _) cc0_scratch2 cc0_scratch3 cc0_scratch4 cc0_scratch5 cc0_scoped0) Q) := by
  rw [k0_part25_eq_skeleton]; unfold k0_part25_skel payToks places dues ins
  rw [dev_list (fun o => atPos ER (kcell (c, rx false o)) 0 ∅ 0), dev_list (fun o => atPos ER (kcell (c, rx true o)) 0 ∅ 0),
    dev_list (fun o => due c false o), dev_list (fun o => due c true o)]
  iintro ⟨#HR, #HL, HO, ⟨⟨B1, B2, B3⟩, ⟨E1, E2, E3⟩, L0, L1, L2⟩, ⟨⟨P0, P1⟩, ⟨S0, S1, S2⟩, ⟨X0, X1, X2, X3⟩, Y0, Y1, Y2, Y3⟩,
    ⟨⟨C0, C1⟩, ⟨D0, D1, D2, -⟩, F0, F1, F2, -⟩, HK, HV, ⟨HX, HWq, HKi, HVi, HWo⟩, HOut⟩ Hk
  ihave HK := (empty_filled m ρ false c) $$ HK
  ihave HV := (empty_filled m ρ true c) $$ HV
  iapply (seq (part1 m ρ c)) $$ [HKi HVi HK HV]
  · isplitl [HKi]; · iexact HKi
    isplitl [HVi]; · iexact HVi
    isplitl [HK] <;> iassumption
  iintro ⟨HKi, HVi, HK, HV⟩
  ihave H := (deal m ρ c) $$ [HK HV]
  · isplitl [HK] <;> iassumption
  icases H with ⟨⟨N0, N1, N2⟩, ⟨G1, G2, G3⟩, H0, H1, H2, H3⟩
  iapply (seq_any (part2 m ρ K c _ _ _)) $$ [HO B1 B2 G1 G2]
  · isplitr; · iexact HR
    isplitl [HO]; · iexact HO
    isplitl [B1 G1]
    · isplitl [B1] <;> iassumption
    isplitl [B2] <;> iassumption
  iintro %w HO
  iapply (seq (part3 m ρ K c _)) $$ [HO B3 G3 C0 P0 N0 N1 N2 L0 L1 L2 HX HWq]
  · isplitr; · iexact HR
    isplitr; · iexact HL
    isplitl [HO]; · iexact HO
    isplitl [B3 G3]
    · isplitl [B3] <;> iassumption
    isplitl [C0 P0]
    · isplitl [C0] <;> iassumption
    isplitl [N0 L0]
    · isplitl [N0] <;> iassumption
    isplitl [N1 L1]
    · isplitl [N1] <;> iassumption
    isplitl [N2 L2]
    · isplitl [N2] <;> iassumption
    isplitl [HX] <;> iassumption
  iintro ⟨HO, Z0, W0, W1, W2, HX, HWq⟩
  iapply (seq (part4 m ρ c)) $$ HWo
  iintro HWo
  iapply (seq (part5 m ρ c)) $$ [HKi HVi]
  · isplitl [HKi] <;> iassumption
  iintro ⟨HKi, HVi⟩
  iapply (seq_pure (part6 m ρ c))
  iapply (seq (part7 m ρ c)) $$ [HKi HVi]
  · isplitl [HKi] <;> iassumption
  iintro ⟨HKi, HVi⟩
  ihave T := (held_due m ρ c 2) $$ [H2 D2 F2 X2 Y2]
  · isplitl [H2]; · iexact H2
    isplitl [D2 X2]
    · isplitl [D2] <;> iassumption
    isplitl [F2] <;> iassumption
  icases T with ⟨T, T'⟩
  iapply (seq (part8 m ρ K c)) $$ [HO T T']
  · unfold Before
    isplitr; · iexact HR
    isplitr; · iexact HL
    isplitl [T]; · iexact T
    isplitl [T'] <;> iassumption
  unfold After
  iintro ⟨U2, V2, HO, ZX2, ZY2⟩
  iapply (seq (part9 m ρ c)) $$ [U2 V2]
  · isplitl [U2] <;> iassumption
  iintro ⟨U2, V2⟩
  iapply (seq_pure (part10 m ρ c))
  iapply (seq (part11 m ρ c)) $$ [U2 V2]
  · isplitl [U2] <;> iassumption
  iintro ⟨U2, V2⟩
  iapply (seq_pure (part12 m ρ c))
  ihave T := (held_due m ρ c 1) $$ [H1 D1 F1 X1 Y1]
  · isplitl [H1]; · iexact H1
    isplitl [D1 X1]
    · isplitl [D1] <;> iassumption
    isplitl [F1] <;> iassumption
  icases T with ⟨T, T'⟩
  iapply (seq (part13 m ρ K c)) $$ [HO T T']
  · unfold Before
    isplitr; · iexact HR
    isplitr; · iexact HL
    isplitl [T]; · iexact T
    isplitl [T'] <;> iassumption
  unfold After
  iintro ⟨U1, V1, HO, ZX1, ZY1⟩
  iapply (seq (part14 m ρ c)) $$ [U1 V1]
  · isplitl [U1] <;> iassumption
  iintro ⟨U1, V1⟩
  iapply (seq_pure (part15 m ρ c))
  iapply (seq (part16 m ρ c)) $$ [U1 V1]
  · isplitl [U1] <;> iassumption
  iintro ⟨U1, V1⟩
  iapply (seq_pure (part17 m ρ c))
  ihave T := (held_due m ρ c 0) $$ [H0 D0 F0 X0 Y0]
  · isplitl [H0]; · iexact H0
    isplitl [D0 X0]
    · isplitl [D0] <;> iassumption
    isplitl [F0] <;> iassumption
  icases T with ⟨T, T'⟩
  iapply (seq (part18 m ρ K c)) $$ [HO T T']
  · unfold Before
    isplitr; · iexact HR
    isplitr; · iexact HL
    isplitl [T]; · iexact T
    isplitl [T'] <;> iassumption
  unfold After
  iintro ⟨U0, V0, HO, ZX0, ZY0⟩
  iapply (seq (part19 m ρ c)) $$ [U0 V0]
  · isplitl [U0] <;> iassumption
  iintro ⟨U0, V0⟩
  iapply (seq_pure (part20 m ρ c))
  iapply (seq (part21 m ρ c)) $$ [U0 V0]
  · isplitl [U0] <;> iassumption
  iintro ⟨U0, V0⟩
  iapply (seq_pure (part22 m ρ c))
  iapply (seq (part23 m ρ c)) $$ HOut
  iintro HOut
  iapply (seq_any (part24 m ρ K c _ _)) $$ [HO E1 W0 W1 W2 S0 S1 S2]
  · isplitr; · iexact HR
    isplitr; · iexact HL
    isplitl [HO]; · iexact HO
    isplitl [E1]; · iexact E1
    isplitl [W0 S0]
    · isplitl [W0] <;> iassumption
    isplitl [W1 S1]
    · isplitl [W1] <;> iassumption
    isplitl [W2] <;> iassumption
  iintro %w' ⟨HO, ⟨N0, Q0⟩, ⟨N1, Q1⟩, N2, Q2⟩
  simp only [semSignalWord, semWaitWord, Prog.lift, Prog.bind_op, Prog.bind_ret, Prog.pure_eq_ret]
  imod (close_none m ρ K c (rx false 3) (last_none c false)) $$ [X3] with ZX3
  · isplitr; · iexact HR
    iexact X3
  imod (close_none m ρ K c (rx true 3) (last_none c true)) $$ [Y3] with ZY3
  · isplitr; · iexact HR
    iexact Y3
  ihave H3 := (held_last m ρ c) $$ H3
  icases H3 with ⟨U3, V3⟩
  iapply (finish m ρ K c) $$ [HO E2 E3 C1 P1]
  · isplitr; · iexact HR
    isplitr; · iexact HL
    isplitl [HO]; · iexact HO
    isplitl [E2]; · iexact E2
    isplitl [E3]; · iexact E3
    isplitl [C1] <;> iassumption
  iintro ⟨HO, Z1⟩
  iapply Hk
  ihave H := (gather_both m ρ c) $$ [N0 N1 N2 U0 U1 U2 U3 V0 V1 V2 V3]
  · isplitl [N0 N1 N2]
    · isplitl [N0]; · iexact N0
      isplitl [N1] <;> iassumption
    isplitl [U0 V0]
    · isplitl [U0] <;> iassumption
    isplitl [U1 V1]
    · isplitl [U1] <;> iassumption
    isplitl [U2 V2]
    · isplitl [U2] <;> iassumption
    isplitl [U3] <;> iassumption
  icases H with ⟨HK, HV⟩
  isplitl [HO]; · iexact HO
  isplitl [Z0 Z1 Q0 Q1 Q2 ZX0 ZX1 ZX2 ZX3 ZY0 ZY1 ZY2 ZY3]
  · unfold zeros
    rw [dev_list (fun o => semVal (kcell (c, rx false o)) 0), dev_list (fun o => semVal (kcell (c, rx true o)) 0)]
    isplitl [Z0 Z1]
    · isplitl [Z0] <;> iassumption
    isplitl [Q0 Q1 Q2]
    · isplitl [Q0]; · iexact Q0
      isplitl [Q1] <;> iassumption
    isplitl [ZX0 ZX1 ZX2 ZX3]
    · isplitl [ZX0]; · iexact ZX0
      isplitl [ZX1]; · iexact ZX1
      isplitl [ZX2] <;> iassumption
    isplitl [ZY0]; · iexact ZY0
    isplitl [ZY1]; · iexact ZY1
    isplitl [ZY2] <;> iassumption
  isplitl [HK]; · iexists _; iexact HK
  isplitl [HV]; · iexists _; iexact HV
  isplitr [HOut]
  · isplitl [HX]; · iexact HX
    isplitl [HWq]; · iexact HWq
    isplitl [HKi]; · iexact HKi
    isplitl [HVi] <;> iassumption
  iexact HOut

end Cert.Attn

end
-- ==== Proof.Kern.Cells.lean ====
/-
# The launch's ghost state

What the launch deals: the cells' round states, the tokens, each to the device that pays with it, and the credits, read off what each device owes at first.
-/
module

public import proofs.«01_k».proof.Proof.Kern.Body

@[expose] public section

set_option maxRecDepth 16384

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The sixteen cells of a device -/

/-- Conjunctions re-associate. -/
theorem assoc_eq (P Q R : sProp 𝕄) : iprop((P ∗ Q) ∗ R) = iprop(P ∗ Q ∗ R) := equiv_iff.mp ⟨BI.sep_assoc, BI.sep_assoc'⟩

/-- A conjunction over the sixteen semaphores, in the groups of the protocol. -/
theorem cells_split (Φ : Fin 16 → sProp 𝕄) :
    (bigSep Finset.univ Φ : sProp 𝕄) = iprop((Φ 0 ∗ Φ 1)
      ∗ ((Φ (sx false 0) ∗ Φ (sx true 0)) ∗ (Φ (sx false 1) ∗ Φ (sx true 1)) ∗ (Φ (sx false 2) ∗ Φ (sx true 2)))
      ∗ (bigSep Finset.univ fun o : Dev nD => Φ (rx false o)) ∗ (bigSep Finset.univ fun o : Dev nD => Φ (rx true o))) := by
  rw [bigSep_univ_eq_bigSepL [0, 1, sx false 0, sx true 0, sx false 1, sx true 1, sx false 2, sx true 2,
    rx false 0, rx false 1, rx false 2, rx false 3, rx true 0, rx true 1, rx true 2, rx true 3] (by decide) (by decide) Φ,
    dev_list (fun o => Φ (rx false o)), dev_list (fun o => Φ (rx true o))]
  simp only [assoc_eq]
  rfl

/-- The kernel's own semaphores: all of the table but the runtime's barrier. -/
abbrev osem (k : Fin 15) : SemLoc sig := csem k.succ

theorem ownSemFacts : Pipeline.OwnSemFacts cfg0.spec osem := by decide

theorem sems_eq (c : Dev nD) :
    iprop(unscopedSems0 c ∗ Pipeline.ownSems0 (Ix := Unit) (Name := ℕ) (U := UU) (Lvl := ℕ) (Val := Elt F) (τ := τ) osem c)
      = (bigSep Finset.univ fun k : Fin 16 => semVal (kcell (c, k)) 0 : sProp 𝕄) := by
  unfold unscopedSems0
  rw [bigSep_eq_bigSepL_of_eq [SemLoc.reg barS] (by decide) (by decide),
    Pipeline.ownSems0_eq_of_list c osem [0, 1, 2, 3, 4, 5, 6, 7, 8, 9, 10, 11, 12, 13, 14] (by decide) (by decide),
    bigSep_univ_eq_bigSepL [0, 1, 2, 3, 4, 5, 6, 7, 8, 9, 10, 11, 12, 13, 14, 15] (by decide) (by decide) (fun k : Fin 16 => (semVal (kcell (c, k)) 0 : sProp 𝕄))]
  rfl

/-! ## The launch credits -/

theorem kcell_eq_iff {a b : Dev nD × Fin 16} : kcell a = kcell b ↔ a = b := ⟨fun h => kcell_injective h, fun h => h ▸ rfl⟩

theorem tally_cell (a b : Dev nD × Fin 16) (n : ℕ) : (tallyAt (kcell a) () n : CellTallies nD τ sig Unit) (kcell b) () = n * (if b = a then 1 else 0) := by
  rw [tallyAt_apply]
  by_cases h : b = a
  · subst h; rw [if_pos ⟨rfl, rfl⟩, if_pos rfl, Nat.mul_one]
  · rw [if_neg (fun h' => h (kcell_injective h'.1)), if_neg h, Nat.mul_zero]

theorem lane_cell (d : Dev nD) (j : ℕ) (v : Bool) (b : Dev nD × Fin 16) :
    (lane d j v) (kcell b) () = N * (if d.val + j < 4 ∧ b = (rot d j, rx v d) then 1 else 0) := by
  unfold lane
  by_cases h : d.val + j < 4
  · rw [if_pos h, tally_cell]
    by_cases h' : b = (rot d j, rx v d)
    · rw [if_pos h', if_pos ⟨h, h'⟩]
    · rw [if_neg h', if_neg (fun hh => h' hh.2)]
  · rw [if_neg h, if_neg (fun hh => h hh.1)]; rfl

/-- The signals device `d` owes cell `b`. -/
def sigs (d : Dev nD) (b : Dev nD × Fin 16) : ℕ :=
  (if b = (rot d 3, 1) then 1 else 0) + (if b = (rot d 2, 1) then 1 else 0) + (if b = (rot d 1, 1) then 1 else 0)
    + (if b = (rot d 3, 0) then 1 else 0) + (if b = (rot d 2, 0) then 1 else 0) + (if b = (rot d 1, 0) then 1 else 0)
/-- The transfers device `d` owes cell `b`. -/
def sendsTo (d : Dev nD) (b : Dev nD × Fin 16) : ℕ :=
  (if d.val + 3 < 4 ∧ b = (rot d 3, rx true d) then 1 else 0) + (if d.val + 3 < 4 ∧ b = (rot d 3, rx false d) then 1 else 0)
    + (if d.val + 2 < 4 ∧ b = (rot d 2, rx true d) then 1 else 0) + (if d.val + 2 < 4 ∧ b = (rot d 2, rx false d) then 1 else 0)
    + (if d.val + 1 < 4 ∧ b = (rot d 1, rx true d) then 1 else 0) + (if d.val + 1 < 4 ∧ b = (rot d 1, rx false d) then 1 else 0)

theorem owed_cell (d : Dev nD) (b : Dev nD × Fin 16) : O₀ d (kcell b) () = sigs d b + N * sendsTo d b := by
  unfold O₀ oweBar2 oweBar1 oweLane oweLane2 oweLane3 oweEnd oweEnd2 oweEnd1 sigs sendsTo
  simp only [Pi.add_apply, Finsupp.add_apply, tally_cell, lane_cell, Nat.one_mul]
  ring

/-- What the launch owes a cell in all. -/
def dueK (b : Dev nD × Fin 16) : ℕ :=
  if b.2.val < 2 then 3 else if b.2.val < 8 then 0 else if b.2.val % 4 < b.1.val then N else 0

theorem sigs_sum : ∀ (c : Dev nD) (k : Fin 16), (∑ d : Dev nD, sigs d (c, k)) = if k.val < 2 then 3 else 0 := by decide
theorem sends_sum : ∀ (c : Dev nD) (k : Fin 16), (∑ d : Dev nD, sendsTo d (c, k)) = if k.val < 8 then 0 else if k.val % 4 < c.val then 1 else 0 := by decide

theorem owed_sum (b : Dev nD × Fin 16) : (∑ d : Dev nD, O₀ d (kcell b) ()) = dueK b := by
  obtain ⟨c, k⟩ := b
  rw [Finset.sum_congr rfl fun d _ => owed_cell d (c, k), Finset.sum_add_distrib, ← Finset.mul_sum, sigs_sum, sends_sum]
  unfold dueK
  by_cases h2 : k.val < 2
  · have h8 : k.val < 8 := by omega
    simp only [h2, h8, if_true, Nat.mul_zero, Nat.add_zero]
  · by_cases h8 : k.val < 8
    · simp only [h2, h8, if_true, if_false, Nat.mul_zero, Nat.add_zero]
    · by_cases hc : k.val % 4 < c.val
      · simp only [h2, h8, hc, if_true, if_false, Nat.mul_one, Nat.zero_add]
      · simp only [h2, h8, hc, if_false, Nat.mul_zero, Nat.zero_add]

theorem launch_cell (b : Dev nD × Fin 16) :
    tallyOn (kcell b) (launchCredit (Pipeline.owing O₀) 0 (kcell b)) = (tallyAt (kcell b) () (dueK b) : CellTallies nD τ sig Unit) := by
  unfold tallyAt; refine congrArg _ (Finsupp.ext fun u => ?_); cases u
  rw [Pipeline.launchCredit_owing, Finsupp.single_eq_same, owed_sum]

theorem due_intro (c : Dev nD) (v : Bool) (o : Dev nD) : (cred (tallyAt (kcell (c, rx v o)) () (dueK (c, rx v o))) : sProp 𝕄) ⊢ due c v o := by
  have h8 : ¬ (rx v o).val < 8 := by
    have : o.val < 4 := o.isLt
    cases v <;> (unfold rx; simp; try omega)
  have h4 : (rx v o).val % 4 = o.val := by
    have : o.val < 4 := o.isLt
    cases v <;> (unfold rx; simp; omega)
  unfold due dueK
  rw [if_neg (show ¬ (rx v o).val < 2 by omega), if_neg h8, h4]
  by_cases h : o.val < c.val
  · rw [if_pos h, if_pos h]
  · rw [if_neg h, if_neg h]
    iintro -
    iempintro

theorem creds (c : Dev nD) : (Pipeline.launchCred O₀ c : sProp 𝕄) ⊢ dues c := by
  have h : (Pipeline.launchCred O₀ c : sProp 𝕄) ⊢ bigSep Finset.univ fun k : Fin 16 => cred (tallyAt (kcell (c, k)) () (dueK (c, k))) := by
    unfold Pipeline.launchCred
    refine (bigSep_subset (t := Finset.univ.map ⟨csem, fun a b h => csem_inj h⟩) (Finset.subset_univ _)).trans ?_
    rw [bigSep_map]
    exact bigSep_mono fun k _ => Entails.of_eq (congrArg cred (launch_cell (c, k)))
  refine h.trans ?_
  rw [cells_split]
  unfold dues
  iintro ⟨⟨H0, H1⟩, -, HF, HT⟩
  isplitl [H0 H1]
  · isplitl [H0]
    · iexact H0
    · iexact H1
  isplitl [HF]
  · iapply (show (bigSep Finset.univ fun o : Dev nD => cred (tallyAt (kcell (c, rx false o)) () (dueK (c, rx false o))) : sProp 𝕄) ⊢ bigSep Finset.univ fun o => due c false o
      from bigSep_mono fun o _ => due_intro c false o)
    iexact HF
  · iapply (show (bigSep Finset.univ fun o : Dev nD => cred (tallyAt (kcell (c, rx true o)) () (dueK (c, rx true o))) : sProp 𝕄) ⊢ bigSep Finset.univ fun o => due c true o
      from bigSep_mono fun o _ => due_intro c true o)
    iexact HT

/-! ## The tokens -/

/-- Every token a device could pay with. -/
def allToks (p : Dev nD) : sProp 𝕄 := bigSep Finset.univ fun ck : Dev nD × Fin 16 => dutyTok ER (kcell ck) 0 p

theorem toks_of (p d : Dev nD) :
    (bigSep Finset.univ fun k : Fin 16 => dutyTok ER (kcell (d, k)) 0 p : sProp 𝕄)
      ⊢ iprop(dutyTok ER (kcell (d, 0)) 0 p ∗ dutyTok ER (kcell (d, 1)) 0 p ∗ dutyTok ER (kcell (d, rx false p)) 0 p ∗ dutyTok ER (kcell (d, rx true p)) 0 p) := by
  rw [cells_split]
  iintro ⟨⟨H0, H1⟩, -, HF, HT⟩
  isplitl [H0]; · iexact H0
  isplitl [H1]; · iexact H1
  isplitl [HF]
  · iapply (show (bigSep Finset.univ fun o : Dev nD => dutyTok ER (kcell (d, rx false o)) 0 p : sProp 𝕄) ⊢ dutyTok ER (kcell (d, rx false p)) 0 p
      from bigSep_elim (Finset.mem_univ p)); iexact HF
  · iapply (show (bigSep Finset.univ fun o : Dev nD => dutyTok ER (kcell (d, rx true o)) 0 p : sProp 𝕄) ⊢ dutyTok ER (kcell (d, rx true p)) 0 p
      from bigSep_elim (Finset.mem_univ p)); iexact HT

theorem toks_deal (p : Dev nD) : (allToks p : sProp 𝕄) ⊢ payToks p := by
  unfold allToks payToks laneToks
  rw [bigSep_univ_prod, dev_split p]
  iintro ⟨HO, H1, H2, H3⟩
  ihave HO := (Entails.of_eq (cells_split (fun k => (dutyTok ER (kcell (p, k)) 0 p : sProp 𝕄)))) $$ HO
  ihave H1 := (toks_of p (rot p 1)) $$ H1
  ihave H2 := (toks_of p (rot p 2)) $$ H2
  ihave H3 := (toks_of p (rot p 3)) $$ H3
  icases HO with ⟨-, ⟨⟨A0, B0⟩, ⟨A1, B1⟩, A2, B2⟩, -⟩
  icases H1 with ⟨C1, D1, E1, F1⟩
  icases H2 with ⟨C2, D2, E2, F2⟩
  icases H3 with ⟨C3, D3, E3, F3⟩
  isplitl [C1 C2 C3]
  · isplitl [C1]; · iexact C1
    isplitl [C2] <;> iassumption
  isplitl [D1 D2 D3]
  · isplitl [D1]; · iexact D1
    isplitl [D2] <;> iassumption
  isplitl [A0 B0 E1 F1]
  · isplitl [A0]; · iexact A0
    isplitl [B0]; · iexact B0
    isplitl [E1]; · iexact E1
    iexact F1
  isplitl [A1 B1 E2 F2]
  · isplitl [A1]; · iexact A1
    isplitl [B1]; · iexact B1
    isplitl [E2]; · iexact E2
    iexact F2
  isplitl [A2]; · iexact A2
  isplitl [B2]; · iexact B2
  isplitl [E3]; · iexact E3
  iexact F3

theorem places_eq (c : Dev nD) : (bigSep Finset.univ fun k : Fin 16 => atPos ER (kcell (c, k)) 0 ∅ 0 : sProp 𝕄) = places c := by
  rw [cells_split]; rfl

theorem zeros_eq (c : Dev nD) : (bigSep Finset.univ fun k : Fin 16 => semVal (kcell (c, k)) 0 : sProp 𝕄) = zeros c := by
  rw [cells_split]; rfl

end Cert.Attn

end
-- ==== Proof.Kern.Launch.lean ====
/-
# The launch

The run of the program on the four devices: every execution ends, each device's result array holds the computed contents, its arguments are as they were.
-/
module

public import proofs.«01_k».proof.Proof.Kern.Cells
public import proofs.«01_k».proof.Proof.Gen.KernelIdeal.Points
public import Idealize.ShloMosaic.Lib.Pipeline.CollectiveSegs

@[expose] public section

set_option maxRecDepth 16384

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The pipeline's proof data -/

/-- What device `c`'s body starts from, apart from the two scratch buffers. -/
def start (c : Dev nD) : sProp 𝕄 :=
  iprop((∃ K, records m ρ K) ∗ payToks c ∗ places c ∗ dues c ∗ levAts L lv)

def bufs (c : Dev nD) : sProp 𝕄 := iprop((∃ f, whole (F := F) false c f) ∗ (∃ f, whole (F := F) true c f))

def Φ₀ (c : Dev nD) : sProp 𝕄 := iprop(start m ρ c ∗ bufs c)
def Φ₁ (c : Dev nD) : sProp 𝕄 := iprop(bufs (F := F) c ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wqstg m ρ c
    | ⟨2, _⟩ => kstg m ρ c
    | ⟨3, _⟩ => vstg m ρ c
    | ⟨4, _⟩ => wostg m ρ c
    | ⟨5, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- A whole staging buffer at given contents, as the library states it. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

theorem stg_intro (c : Dev nD) (b : Ref sig .tc) (X : b.ty.Contents (Elt F)) :
    (((c : Thread nD τ).loc b) ↦{fullShare} X : sProp 𝕄) ⊢ stg c b X := by
  iintro H
  iexists X
  isplitr; · (ipureintro; rfl)
  iexact H

theorem stg_elim (c : Dev nD) (b : Ref sig .tc) {X Y : b.ty.Contents (Elt F)} (h : X = Y) :
    (stg c b X : sProp 𝕄) ⊢ (((c : Thread nD τ).loc b) ↦{fullShare} Y : sProp 𝕄) := by
  subst h
  iintro ⟨%f, %hf, H⟩
  subst hf
  iexact H

def bodyPre (c : Dev nD) : sProp 𝕄 :=
  iprop(Φ₀ m ρ c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

def bodyPost (c : Dev nD) : sProp 𝕄 :=
  iprop(Φ₁ c ∗ (dats m ρ 0 c).owesAt () t0_0.succ ∗ stg c cc0_stg0_0 (xstg m ρ c) ∗ stg c cc0_stg1_0 (wqstg m ρ c) ∗ stg c cc0_stg2_0 (kstg m ρ c)
    ∗ stg c cc0_stg3_0 (vstg m ρ c) ∗ stg c cc0_stg4_0 (wostg m ρ c) ∗ stg c cc0_stg5_0 (outAt m ρ c))

theorem sound (c : Dev nD) :
    bodyPre m ρ c ⊢ run c (cc0_body (F := F) xM (hW _) wqM (hW _) kiM (hW _) viM (hW _) woM (hW _) oM (hW _) kM (hW _) vM (hW _) cc0_scratch2 cc0_scratch3 cc0_scratch4 cc0_scratch5 cc0_scoped0) (fun _ => bodyPost m ρ c) := by
  rw [cc0_body_eq_skeleton]; unfold cc0_body_skel
  unfold bodyPre Φ₀ start bufs
  iintro ⟨⟨⟨⟨%K, #HR⟩, HT, HP, HD, #HL⟩, HK, HV⟩, Ho, ⟨%d0, H0⟩, ⟨%d1, H1⟩, ⟨%d2, H2⟩, ⟨%d3, H3⟩, ⟨%d4, H4⟩, ⟨%d5, ⟨%g, %hg, H5⟩⟩⟩
  have h0 : (dats m ρ 0 c).before (0 : Fin 6) t0_0 d0 = xstg m ρ c := by unfold Dat.before; rw [if_pos (fetch0_0 t0_0)]; rfl
  have h1 : (dats m ρ 0 c).before (1 : Fin 6) t0_0 d1 = wqstg m ρ c := by unfold Dat.before; rw [if_pos (fetch0_1 t0_0)]; rfl
  have h2 : (dats m ρ 0 c).before (2 : Fin 6) t0_0 d2 = kstg m ρ c := by unfold Dat.before; rw [if_pos (fetch0_2 t0_0)]; rfl
  have h3 : (dats m ρ 0 c).before (3 : Fin 6) t0_0 d3 = vstg m ρ c := by unfold Dat.before; rw [if_pos (fetch0_3 t0_0)]; rfl
  have h4 : (dats m ρ 0 c).before (4 : Fin 6) t0_0 d4 = wostg m ρ c := by unfold Dat.before; rw [if_pos (fetch0_4 t0_0)]; rfl
  ihave H0 := (stg_elim c cc0_stg0_0 h0) $$ H0
  ihave H1 := (stg_elim c cc0_stg1_0 h1) $$ H1
  ihave H2 := (stg_elim c cc0_stg2_0 h2) $$ H2
  ihave H3 := (stg_elim c cc0_stg3_0 h3) $$ H3
  ihave H4 := (stg_elim c cc0_stg4_0 h4) $$ H4
  unfold Dat.owesAt Pipeline.owesWithin
  icases Ho with ⟨%W, %hW', HO⟩
  rw [show (dats m ρ 0 c).owed t0_0.castSucc = O₀ c from rfl]
  iapply (seq (P := iprop(records m ρ K ∗ levAts L lv ∗ owe c (O₀ c) ∗ payToks c ∗ places c ∗ dues c
        ∗ (∃ f, whole false c f) ∗ (∃ f, whole true c f) ∗ ins m ρ c ∗ (((c : Thread nD τ).loc cc0_stg5_0) ↦{fullShare} g))) (body m ρ K c)) $$ [HT HP HD HK HV H0 H1 H2 H3 H4 H5 HO]
  · isplitr; · iexact HR
    isplitr; · iexact HL
    isplitl [HO]; · unfold owe; iexists W; iexact HO
    isplitl [HT]; · iexact HT
    isplitl [HP]; · iexact HP
    isplitl [HD]; · iexact HD
    isplitl [HK]; · iexact HK
    isplitl [HV]; · iexact HV
    isplitr [H5]
    · unfold ins xIn wqIn kIn vIn woIn
      isplitl [H0]; · iexact H0
      isplitl [H1]; · iexact H1
      isplitl [H2]; · iexact H2
      isplitl [H3] <;> iassumption
    iexact H5
  unfold ins xIn wqIn kIn vIn woIn oOut
  iintro ⟨HO, HZ, HK, HV, ⟨H0, H1, H2, H3, H4⟩, H5⟩
  iapply (run_ret c _ _)
  unfold bodyPost Φ₁ bufs Dat.owesAt Pipeline.owesWithin owe
  rw [show (dats m ρ 0 c).owed t0_0.succ = 0 from rfl]
  icases HO with ⟨%W', HO⟩
  isplitl [HZ HK HV]
  · isplitl [HK HV]
    · isplitl [HK] <;> iassumption
    iexact HZ
  isplitl [HO]
  · iexists W'
    isplitr; · ipureintro; exact fun _ _ => Or.inl trivial
    iexact HO
  isplitl [H0]; · iapply (stg_intro c cc0_stg0_0 (xstg m ρ c)); iexact H0
  isplitl [H1]; · iapply (stg_intro c cc0_stg1_0 (wqstg m ρ c)); iexact H1
  isplitl [H2]; · iapply (stg_intro c cc0_stg2_0 (kstg m ρ c)); iexact H2
  isplitl [H3]; · iapply (stg_intro c cc0_stg3_0 (vstg m ρ c)); iexact H3
  isplitl [H4]; · iapply (stg_intro c cc0_stg4_0 (wostg m ρ c)); iexact H4
  iapply (stg_intro c cc0_stg5_0 (outAt m ρ c)); iexact H5

theorem bigSep_W (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

theorem body_eq : (defs₀ (F := F)) .tc (0 : Fin 1) (t0_0, cfg0.slots t0_0) = cc0_body (F := F) xM (hW _) wqM (hW _) kiM (hW _) viM (hW _) woM (hW _) oM (hW _) kM (hW _) vM (hW _) cc0_scratch2 cc0_scratch3 cc0_scratch4 cc0_scratch5 cc0_scoped0 := rfl

theorem post_eq (c : Dev nD) : (fun _ : PUnit => bodyPost m ρ c) = fun _ => iprop((dats m ρ 0 c).Φ t0_0.succ ∗ (dats m ρ 0 c).owesAt () t0_0.succ
    ∗ stg c cc0_stg0_0 ((dats m ρ 0 c).after 0 t0_0) ∗ stg c cc0_stg1_0 ((dats m ρ 0 c).after 1 t0_0) ∗ stg c cc0_stg2_0 ((dats m ρ 0 c).after 2 t0_0)
    ∗ stg c cc0_stg3_0 ((dats m ρ 0 c).after 3 t0_0) ∗ stg c cc0_stg4_0 ((dats m ρ 0 c).after 4 t0_0) ∗ stg c cc0_stg5_0 ((dats m ρ 0 c).after 5 t0_0)) := rfl

theorem pre_eq (c : Dev nD) : iprop((dats m ρ 0 c).Φ t0_0.castSucc ∗ (dats m ρ 0 c).owesAt () t0_0.castSucc
    ∗ (∃ d, stg c cc0_stg0_0 ((dats m ρ 0 c).before 0 t0_0 d)) ∗ (∃ d, stg c cc0_stg1_0 ((dats m ρ 0 c).before 1 t0_0 d))
    ∗ (∃ d, stg c cc0_stg2_0 ((dats m ρ 0 c).before 2 t0_0 d)) ∗ (∃ d, stg c cc0_stg3_0 ((dats m ρ 0 c).before 3 t0_0 d))
    ∗ (∃ d, stg c cc0_stg4_0 ((dats m ρ 0 c).before 4 t0_0 d)) ∗ (∃ d, stg c cc0_stg5_0 ((dats m ρ 0 c).before 5 t0_0 d))) ⊢ bodyPre m ρ c := Entails.refl _

theorem sound_of (c : Dev nD) {p : Prog (TpuEff nD τ sig (Elt F) Λ₀ .tc) PUnit} {Q : PUnit → sProp 𝕄}
    (hp : p = cc0_body (F := F) xM (hW _) wqM (hW _) kiM (hW _) viM (hW _) woM (hW _) oM (hW _) kM (hW _) vM (hW _) cc0_scratch2 cc0_scratch3 cc0_scratch4 cc0_scratch5 cc0_scoped0) (hQ : (fun _ => bodyPost m ρ c) = Q) : bodyPre m ρ c ⊢ run c p Q := by
  subst hp hQ
  exact sound m ρ c

/-- The library's obligation of the body. -/
theorem body_obligation (c : Dev nD) : BodyObligation (dats (F := F) m ρ 0 c) (defs₀ (F := F)) 𝒱₀ () Set.univ := fun t => by
  rw [fin_N0 t]
  rw [bigSep_W, bigSep_W]
  simp only [owns_whole]
  generalize hp : (defs₀ (F := F)) .tc (0 : Fin 1) (t0_0, cfg0.slots t0_0) = p
  have hp' := hp.symm.trans body_eq
  clear hp
  refine (pre_eq m ρ c).trans ?_
  have h := sound_of m ρ c hp' (post_eq m ρ c)
  exact h

/-! ## The ghost state -/

def cellSet : Finset (GSem nD τ sig) := Finset.univ.map ⟨kcell, kcell_injective⟩

theorem tok_injective : Function.Injective (fun x : Dev nD × (Dev nD × Fin 16) => ((kcell x.2, 0, x.1) : GSem nD τ sig × ℕ × Dev nD)) := by
  rintro ⟨p, ck⟩ ⟨p', ck'⟩ h
  have h1 : kcell ck = kcell ck' := congrArg (fun y : GSem nD τ sig × ℕ × Dev nD => y.1) h
  have h2 : p = p' := congrArg (fun y : GSem nD τ sig × ℕ × Dev nD => y.2.2) h
  rw [h2, kcell_injective h1]
def tokSet : Finset (GSem nD τ sig × ℕ × Dev nD) := Finset.univ.map ⟨_, tok_injective⟩

def u₀ : UU := (initOf (Pipeline.cells cfgs cellOf_inj) (Pipeline.launchToks cfgs cellOf_inj), initOf cellSet tokSet)

/-- What the launch element deals device `c`. -/
def G (c : Dev nD) : sProp 𝕄 :=
  iprop((bigSep Finset.univ fun k : Fin 16 => roundState ER (sched m ρ) (kcell (c, k)) 0)
    ∗ (bigSep Finset.univ fun k : Fin 16 => atPos ER (kcell (c, k)) 0 ∅ 0) ∗ (bigSep Finset.univ fun k : Fin 16 => reached ER (kcell (c, k)) 0) ∗ allToks c)

/-- What the global step makes of it. -/
def G' (c : Dev nD) : sProp 𝕄 := iprop((∃ K, records m ρ K) ∗ payToks c ∗ places c)

theorem fund : BI.own (ER (initOf cellSet tokSet)) ⊢ (|==> bigSep Finset.univ (G m ρ) : sProp 𝕄) := by
  have hX (Φ : GSem nD τ sig → sProp 𝕄) : bigSep cellSet Φ = bigSep Finset.univ fun c : Dev nD => bigSep Finset.univ fun k : Fin 16 => Φ (kcell (c, k)) := by
    unfold cellSet; rw [bigSep_map, bigSep_univ_prod]; rfl
  have hT : bigSep tokSet (fun x => (dutyTok ER x.1 x.2.1 x.2.2 : sProp 𝕄)) = bigSep Finset.univ fun c : Dev nD => allToks c := by
    unfold tokSet allToks; rw [bigSep_map, bigSep_univ_prod]; rfl
  iintro HX
  imod (Rounds.fund ER (sched m ρ) cellSet tokSet) $$ HX with ⟨Hst, Hr, Hat, Htok⟩
  imodintro
  ihave Hst := (Entails.of_eq (hX fun g => roundState ER (sched m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat]; · iexact Hat
  isplitl [Hr] <;> iassumption

/-- One device's cells become invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k : Fin 16 => reached ER (kcell (c, k)) 0) ∗ payToks c ∗ places c) := by
  unfold G
  iintro ⟨Hos, Hus, Hst, Hat, Hr, Htok⟩
  ihave Hv := (Entails.of_eq (sems_eq (F := F) c)) $$ [Hos Hus]
  · isplitl [Hus] <;> iassumption
  imod (show iprop((bigSep Finset.univ fun k : Fin 16 => semVal (kcell (c, k)) 0) ∗ bigSep Finset.univ fun k : Fin 16 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Htok]
  · iapply (toks_deal (F := F) c); iexact Htok
  iapply (Entails.of_eq (places_eq (F := F) c)); iexact Hat

/-- Every device gets the records. -/
theorem share_records {S : Finset (Dev nD)} {R : sProp 𝕄} [BI.Persistent R] {Φ Ψ : Dev nD → sProp 𝕄}
    (h : ∀ i ∈ S, iprop(R ∗ Φ i) ⊢ Ψ i) : iprop(R ∗ bigSep S Φ) ⊢ bigSep S Ψ :=
  (BI.sep_mono (BI.bigSep_of_persistent S R) (Entails.refl _)).trans
    (show iprop((bigSep S fun _ => R) ∗ bigSep S Φ) ⊢ _ from by rw [← bigSep_sep']; exact bigSep_mono h)

theorem regroup :
    (bigSep Finset.univ fun c : Dev nD => iprop((bigSep Finset.univ fun k => iprop(∃ κ : ℕ, cellInv ER (sched m ρ) κ (kcell (c, k))))
          ∗ (bigSep Finset.univ fun k : Fin 16 => reached ER (kcell (c, k)) 0) ∗ payToks c ∗ places c) : sProp 𝕄)
      ⊢ bigSep Finset.univ (G' m ρ) := by
  rw [bigSep_sep', bigSep_sep', ← bigSep_univ_prod (fun ck : Dev nD × Fin 16 => iprop(∃ κ : ℕ, cellInv ER (sched m ρ) κ (kcell ck))),
    ← bigSep_univ_prod (fun ck : Dev nD × Fin 16 => (reached ER (kcell ck) 0 : sProp 𝕄))]
  iintro ⟨HI, #HR, HT⟩
  ihave HK := (BI.bigSep_exists_pi Finset.univ (fun (ck : Dev nD × Fin 16) (κ : ℕ) => (cellInv ER (sched m ρ) κ (kcell ck) : sProp 𝕄))) $$ HI
  icases HK with ⟨%K, #HI⟩
  iapply (share_records (R := records m ρ K) (Φ := fun c : Dev nD => iprop(payToks c ∗ places c)) (Ψ := G' m ρ) fun c _ => by
    unfold G'
    iintro ⟨#HR, HT⟩
    isplitr
    · iexists K; iexact HR
    iexact HT)
  isplitr
  · unfold records; isplitl; · iexact HI
    iexact HR
  · iexact HT

/-- The global step: the semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold start G'
  iintro ⟨-, Hlev, Hcr, -, HR, HT, HP⟩
  ihave Hc := (creds (F := F) c) $$ Hcr
  imodintro
  isplitl
  · isplitl [HR]; · iexact HR
    isplitl [HT]; · iexact HT
    isplitl [HP]; · iexact HP
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ bufs whole
  iintro ⟨Hs, -, HB⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ bufs whole
  rw [← zeros_eq, ← sems_eq]
  iintro ⟨HB, HU, HO⟩
  isplitl [HU]; · iexact HU
  isplitl [HO] <;> iassumption

theorem waits (c : Dev nD) : (levAts L lv : sProp 𝕄) ⊢ Pipeline.cellsWaits cfgs (dats m ρ) () 0 c :=
  Pipeline.cellsWaits_intro cfgs (dats m ρ) () 0 c fun w s t =>
    mayWait (n := 0) c _ _ (by
      rcases t with ⟨_ | _, ht⟩
      · exact above_O₀ c
      · exact Above.zero 0) (by fin_cases w <;> fin_cases s <;> exact le_of_eq rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- Every execution ends, every array the region stages as the data say, every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Attn

end
-- ==== Proof.Kern.Frames.lean ====
/-
  The frames: every program runs to its end, its arguments unchanged and every semaphore at zero. The kernel's run
  (Launch.lean) is stated over any float values at which a named constant has a value, so the printed kernel, whose masked
  scores are a literal, is the same run at the bit patterns with each name read as the literal it stands for.
-/
module

public import proofs.«01_k».proof.Defs
public import proofs.«01_k».proof.Proof.Kern.Launch
public import proofs.«01_k».proof.Proof.Gen.Kernel
public import proofs.«01_k».proof.Proof.Gen.ReferenceIdeal.Run
public import Idealize.ShloMosaic.Lib.Quiescent

@[expose] public section

set_option maxRecDepth 16384

noncomputable section

namespace Cert.Attn

open Cert.KernelIdeal Cert.KernelIdeal.Gen
open Idealize.ShloMosaic Idealize.ShloMosaic.TcCoe Idealize.SL.Sem Idealize.ShloMosaic.Pipeline

variable {F : FTy → Type} [FloatOps F] [Named F]
variable (m : (ℓ : Loc nD τ sig) → Buf (Elt F) ℓ) (ρ : Dev nD → PrngReg)

/-- An array the region only reads holds at the end what it held at the start. -/
theorem finalA_in (c : Dev nD) (w : Fin 6) (hw : w ≠ 5) :
    finalA m ρ c w = (s₀ m ρ).mem ((cfg0.win w).arr.view.loc (c : Thread nD τ)) := by
  refine (dats (F := F) m ρ 0 c).arrAt_in w ?_ _
  revert hw; revert w; decide

/-- The result array's one block, read back, is what the body left in the staging buffer. -/
theorem finalA_out (c : Dev nD) :
    (win0_5.blk (0 : Fin 1)).view.read (Elt F) (finalA m ρ c (5 : Fin 6)) = outAt m ρ c := by
  unfold finalA
  rw [show cfg0.N = ((0 : Fin 1) : Fin cfg0.N).val + 1 from rfl, (dats m ρ 0 c).arrAt_succ (5 : Fin 6) (0 : Fin 1)]
  rw [show (cfg0.win (5 : Fin 6)).flush (0 : Fin 1) = true from by decide, if_pos rfl]
  exact View.read_write_univ _ _

/-- The kernel's run, read at its arguments and its result. -/
theorem run_ends : θ_run defs (onTc (τ := τ) (main (F := F))) (s₀ m ρ) (fun r =>
    (∀ c : Dev nD, (win0_5.blk (0 : Fin 1)).view.read (Elt F) (r.2.mem ((c : Thread nD τ).loc main_v1)) = outAt m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
    ∧ r.2.sem = fun _ => 0) :=
  (θ_run defs _ _).mono (fun r h => ⟨fun c =>
    ⟨(congrArg ((win0_5.blk (0 : Fin 1)).view.read (Elt F)) (h.1 c (5 : Fin 6))).trans (finalA_out m ρ c),
      (h.1 c (0 : Fin 6)).trans (finalA_in m ρ c 0 (by decide)), (h.1 c (1 : Fin 6)).trans (finalA_in m ρ c 1 (by decide)),
      (h.1 c (2 : Fin 6)).trans (finalA_in m ρ c 2 (by decide)), (h.1 c (3 : Fin 6)).trans (finalA_in m ρ c 3 (by decide)),
      (h.1 c (4 : Fin 6)).trans (finalA_in m ρ c 4 (by decide))⟩, h.2⟩) (run_main m ρ)

theorem frame_ideal : Cert.quiescent_KernelIdeal := fun m ρ _ =>
  (θ_run defs _ _).mono (fun _ h => ⟨fun c => (h.1 c).2, h.2⟩) (run_ends m ρ)

/-- Read at the bit patterns, a named constant is the literal it stands for. -/
@[instance_reducible] def literal : Named Bits where
  named _ _ {φ} bits := FloatOps.ofBits φ bits

attribute [local instance] literal

/-- The two bodies are one text, so one body at the bit patterns. -/
theorem defs₀_eq : Cert.Kernel.defs₀ (F := Bits) = Cert.KernelIdeal.defs₀ (F := Bits) := by
  refine congrArg Defs.onTc (funext fun l => ?_)
  match l with
  | 0 => exact funext fun ⟨_, _⟩ => rfl

theorem main_eq : Cert.Kernel.main (F := Bits) = Cert.KernelIdeal.main (F := Bits) := rfl

theorem defs_eq : Cert.Kernel.defs (F := Bits) = Cert.KernelIdeal.defs (F := Bits) :=
  congrArg (Pipeline.defs Cert.KernelIdeal.pcfgs) defs₀_eq

theorem frame_kernel : Cert.quiescent_Kernel := fun m ρ _ => by
  rw [main_eq, defs_eq]
  exact (θ_run (Cert.KernelIdeal.defs (F := Bits)) _ _).mono (fun _ h => ⟨fun c => (h.1 c).2, h.2⟩) (run_ends (F := Bits) m ρ)

theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Attn

end
-- ==== Proof.Val.Masks.lean ====
/-
# The masks, as conditions on block numbers

The kernel finds a row's or a column's block by a division that rounds downwards, written out over words. On the words that
occur it is the division of naturals, so each of the four masks is a comparison of two small numbers.
-/
module

public import proofs.«01_k».proof.Proof.Kern.Values
public import Idealize.ShloMosaic.Lib.Pointwise

@[expose] public section

set_option maxRecDepth 16384

noncomputable section

namespace Cert.Attn

open Cert.KernelIdeal Cert.KernelIdeal.Gen

open Idealize.ShloMosaic

/-- A word divided by `64`, rounded downwards. -/
abbrev fdiv (w : BitVec 32) : BitVec 32 :=
  Scalar.select
    (IntOp.andi
      (IntOp.cmpi .ne
        (IntOp.subi (BitVec.setWidth 32 (IntOp.cmpi .sgt w 0#32)) (BitVec.setWidth 32 (IntOp.cmpi .slt w 0#32)))
        (Scalar.subi (Scalar.extui (Scalar.cmpi .sgt 64#32 0#32)) (Scalar.extui (Scalar.cmpi .slt 64#32 0#32))))
      (IntOp.cmpi .ne (IntOp.remsi .vector w 64#32) 0#32))
    (IntOp.subi (IntOp.divsi .vector w 64#32) 1#32) (IntOp.divsi .vector w 64#32)

theorem fdiv_val : ∀ j : Fin 256, fdiv (BitVec.ofNat 32 j.val) = BitVec.ofNat 32 (j.val / 64) := by decide +kernel

theorem my_val : ∀ c : Dev nD, my c = BitVec.ofNat 32 c.val := by decide +kernel

/-- What a query row of device `c` sees of the columns of step `n`. -/
def vis (c : Fin 4) (n : ℕ) (i j : Fin 256) : Prop :=
  match n with
  | 0 => j.val / 64 ≤ i.val / 64
  | 1 => 2 < c.val ∧ 8 + j.val / 64 ≤ 4 * c.val + i.val / 64
  | 2 => 1 < c.val ∧ 4 + j.val / 64 ≤ 4 * c.val + i.val / 64
  | _ => 0 < c.val ∧ 0 + j.val / 64 ≤ 4 * c.val + i.val / 64

instance (c : Fin 4) (n : ℕ) (i j : Fin 256) : Decidable (vis c n i j) := by
  unfold vis
  split <;> infer_instance

theorem word0 : ∀ a b : Fin 4, IntOp.cmpi .sle (BitVec.ofNat 32 b.val) (BitVec.ofNat 32 a.val) = if b.val ≤ a.val then 1#1 else 0#1 := by decide +kernel

theorem wordn (o : Fin 3) : ∀ c a b : Fin 4,
    IntOp.andi (Scalar.cmpi .sgt (BitVec.ofNat 32 c.val) (BitVec.ofNat 32 o.val))
      (IntOp.cmpi .sle (IntOp.addi (BitVec.ofNat 32 (4 * o.val)) (BitVec.ofNat 32 b.val)) (IntOp.addi (Scalar.muli (BitVec.ofNat 32 c.val) 4#32) (BitVec.ofNat 32 a.val)))
    = if o.val < c.val ∧ 4 * o.val + b.val ≤ 4 * c.val + a.val then 1#1 else 0#1 := by revert o; decide +kernel

def quart (i : Fin 256) : Fin 4 := ⟨i.val / 64, by omega⟩

theorem mk_val (c : Dev nD) (n : ℕ) (i j : Fin 256) : mk c n (ix2 i j) = if vis c n i j then 1#1 else 0#1 := by
  match n with
  | 0 =>
    pointwise [mk, k0_pay14, k0_pay15, k0_pay16, k0_pay17, iRow, iCol]
    show IntOp.cmpi .sle (fdiv (BitVec.ofNat 32 j.val)) (fdiv (BitVec.ofNat 32 i.val)) = _
    rw [fdiv_val, fdiv_val]
    exact word0 (quart i) (quart j)
  | 1 =>
    pointwise [mk, k0_pay62, k0_pay63, k0_pay64, iRow, iCol, qblk, k0_pay12]
    show IntOp.andi (Scalar.cmpi .sgt (my c) 2#32) (IntOp.cmpi .sle (IntOp.addi 8#32 (fdiv (BitVec.ofNat 32 j.val))) (IntOp.addi (Scalar.muli (my c) 4#32) (fdiv (BitVec.ofNat 32 i.val)))) = _
    rw [fdiv_val, fdiv_val, my_val]
    exact wordn 2 c (quart i) (quart j)
  | 2 =>
    pointwise [mk, k0_pay124, k0_pay125, k0_pay126, k0_pay127, iRow, iCol, qblk, k0_pay12]
    show IntOp.andi (Scalar.cmpi .sgt (my c) 1#32) (IntOp.cmpi .sle (IntOp.addi 4#32 (fdiv (BitVec.ofNat 32 j.val))) (IntOp.addi (Scalar.muli (my c) 4#32) (fdiv (BitVec.ofNat 32 i.val)))) = _
    rw [fdiv_val, fdiv_val, my_val]
    exact wordn 1 c (quart i) (quart j)
  | _ + 3 =>
    pointwise [mk, k0_pay187, k0_pay188, iRow, iCol, qblk, k0_pay12]
    show IntOp.andi (Scalar.cmpi .sgt (my c) 0#32) (IntOp.cmpi .sle (IntOp.addi 0#32 (fdiv (BitVec.ofNat 32 j.val))) (IntOp.addi (Scalar.muli (my c) 4#32) (fdiv (BitVec.ofNat 32 i.val)))) = _
    rw [fdiv_val, fdiv_val, my_val]
    exact wordn 0 c (quart i) (quart j)

end Cert.Attn

end
-- ==== Proof.Val.Online.lean ====
/-
# The softmax in steps

A weighted mean with weights `exp (s j)` can be computed over the keys a chunk at a time: a running maximum, a running sum
of weights and a running weighted sum, each rescaled whenever the maximum grows. This module says so over the extended
reals, where a key that a query does not see has the score `⊥`, hence the weight `0`. The values are arbitrary; the scores
are nowhere `⊤`, and the first chunk has one that is a real number.
-/
module

public import Idealize.ShloMosaic.PureOps.Ideal

@[expose] public section

noncomputable section

namespace Cert.Attn

open Idealize.ShloMosaic

/-! ## Real numbers among the extended reals -/

def IsReal (x : EReal) : Prop := x ≠ ⊥ ∧ x ≠ ⊤

theorem isReal_coe (r : ℝ) : IsReal (r : EReal) := ⟨EReal.coe_ne_bot r, EReal.coe_ne_top r⟩

theorem IsReal.eq_coe {x : EReal} (h : IsReal x) : ∃ r : ℝ, x = r := ⟨x.toReal, (EReal.coe_toReal h.2 h.1).symm⟩

theorem IsReal.mul {x y : EReal} (hx : IsReal x) (hy : IsReal y) : IsReal (x * y) := by
  obtain ⟨a, rfl⟩ := hx.eq_coe
  obtain ⟨b, rfl⟩ := hy.eq_coe
  rw [← EReal.coe_mul]; exact isReal_coe _

theorem IsReal.add {x y : EReal} (hx : IsReal x) (hy : IsReal y) : IsReal (x + y) := by
  obtain ⟨a, rfl⟩ := hx.eq_coe
  obtain ⟨b, rfl⟩ := hy.eq_coe
  rw [← EReal.coe_add]; exact isReal_coe _

theorem IsReal.sum {ι : Type} (s : Finset ι) {f : ι → EReal} (h : ∀ i, IsReal (f i)) : IsReal (∑ i ∈ s, f i) := by
  classical
  induction s using Finset.induction_on with
  | empty => rw [Finset.sum_empty]; exact isReal_coe 0
  | insert a s ha ih => rw [Finset.sum_insert ha]; exact (h a).add ih

/-- A nonnegative factor that is not `⊤` goes into any sum. -/
theorem mul_sum_real {ι : Type} (s : Finset ι) {c : EReal} (h0 : 0 ≤ c) (ht : c ≠ ⊤) (f : ι → EReal) :
    c * ∑ i ∈ s, f i = ∑ i ∈ s, c * f i := by
  classical
  induction s using Finset.induction_on with
  | empty => rw [Finset.sum_empty, Finset.sum_empty, mul_zero]
  | insert a s ha ih => rw [Finset.sum_insert ha, Finset.sum_insert ha, EReal.left_distrib_of_nonneg_of_ne_top h0 ht, ih]

/-! ## Heads, the scale and the mask's value -/

/-- Column `d` of head `h`, and the head of a column. -/
def hcol (h : Fin 4) (d : Fin 64) : Fin 256 := ⟨h.val * 64 + d.val, by omega⟩
def hOf (e : Fin 256) : Fin 4 := ⟨e.val / 64, by omega⟩

/-- The scale of the scores. -/
abbrev c8 : EReal := Ideal.ofBits .f32 0x3E000000#32

theorem ofBits_neg_inf : Ideal.ofBits .f32 0xFF800000#32 = ⊥ := by simp [Ideal.ofBits, Ideal.ieee]

theorem c8_eq : c8 = ((1 / 8 : ℝ) : EReal) := by
  have h : (8388608 : ℝ) * (1 / 67108864) = 1 / 8 := by norm_num
  unfold c8
  simp [Ideal.ofBits, Ideal.ieee]
  norm_num
  exact (EReal.coe_mul _ _).symm.trans (congrArg _ h)

theorem select_ite {α : Type} (p : Prop) [Decidable p] (a b : α) : Scalar.select (if p then 1#1 else 0#1) a b = if p then a else b := by
  split <;> rfl

/-! ## The exponential -/

theorem exp_nonneg (x : EReal) : 0 ≤ Ideal.exp x := by
  induction x using EReal.rec with
  | bot => exact le_refl _
  | top => exact le_top
  | coe r => rw [Ideal.exp_coe]; exact_mod_cast (Real.exp_pos r).le

theorem exp_pos {x : EReal} (h : x ≠ ⊥) : 0 < Ideal.exp x := by
  induction x using EReal.rec with
  | bot => exact absurd rfl h
  | top => exact EReal.zero_lt_top
  | coe r => rw [Ideal.exp_coe]; exact_mod_cast Real.exp_pos r

theorem exp_ne_top {x : EReal} (h : x ≠ ⊤) : Ideal.exp x ≠ ⊤ := by
  induction x using EReal.rec with
  | bot => exact EReal.zero_ne_top
  | top => exact absurd rfl h
  | coe r => exact EReal.coe_ne_top _

theorem sub_ne_top {s m : EReal} (hs : s ≠ ⊤) (hm : IsReal m) : s - m ≠ ⊤ := by
  obtain ⟨b, rfl⟩ := hm.eq_coe
  induction s using EReal.rec with
  | bot => rw [EReal.bot_sub]; exact bot_ne_top
  | top => exact absurd rfl hs
  | coe r => rw [← EReal.coe_sub]; exact EReal.coe_ne_top _

theorem sub_ne_bot {s m : EReal} (hs : s ≠ ⊥) (hm : IsReal m) : s - m ≠ ⊥ := by
  obtain ⟨b, rfl⟩ := hm.eq_coe
  induction s using EReal.rec with
  | bot => exact absurd rfl hs
  | top => rw [EReal.top_sub_coe]; exact top_ne_bot
  | coe r => rw [← EReal.coe_sub]; exact EReal.coe_ne_bot _

/-- A weight against one maximum, rescaled to another. -/
theorem exp_rescale {s m m' : EReal} (hs : s ≠ ⊤) (hm : IsReal m) (hm' : IsReal m') :
    Ideal.exp (s - m) * Ideal.exp (m - m') = Ideal.exp (s - m') := by
  obtain ⟨a, rfl⟩ := hm.eq_coe
  obtain ⟨b, rfl⟩ := hm'.eq_coe
  induction s using EReal.rec with
  | bot => rw [EReal.bot_sub, EReal.bot_sub, Ideal.exp_bot, zero_mul]
  | top => exact absurd rfl hs
  | coe r =>
    rw [← EReal.coe_sub, ← EReal.coe_sub, ← EReal.coe_sub, Ideal.exp_coe, Ideal.exp_coe, Ideal.exp_coe, ← EReal.coe_mul,
      ← Real.exp_add, sub_add_sub_cancel]

/-! ## The steps -/

variable {J : Type} [Fintype J] (sc V : ℕ → J → EReal)

/-- The running maximum. -/
def stepM : ℕ → EReal
  | 0 => Finset.univ.sup (sc 0)
  | n + 1 => max (stepM n) (Finset.univ.sup (sc (n + 1)))

/-- The running sum of weights. -/
def stepL : ℕ → EReal
  | 0 => ∑ j, Ideal.exp (sc 0 j - stepM sc 0)
  | n + 1 => stepL n * Ideal.exp (stepM sc n - stepM sc (n + 1)) + ∑ j, Ideal.exp (sc (n + 1) j - stepM sc (n + 1))

/-- The running weighted sum. -/
def stepA : ℕ → EReal
  | 0 => ∑ j, Ideal.exp (sc 0 j - stepM sc 0) * V 0 j
  | n + 1 => stepA n * Ideal.exp (stepM sc n - stepM sc (n + 1)) + ∑ j, Ideal.exp (sc (n + 1) j - stepM sc (n + 1)) * V (n + 1) j

/-- The running maximum is the least bound of every score met. -/
theorem stepM_le (n : ℕ) (y : EReal) : stepM sc n ≤ y ↔ ∀ k ≤ n, ∀ j, sc k j ≤ y := by
  induction n with
  | zero =>
    unfold stepM; rw [Finset.sup_le_iff]
    exact ⟨fun h k hk j => by rw [Nat.le_zero.1 hk]; exact h j (Finset.mem_univ j), fun h j _ => h 0 le_rfl j⟩
  | succ n ih =>
    unfold stepM; rw [max_le_iff, ih, Finset.sup_le_iff]
    refine ⟨fun h k hk j => ?_, fun h => ⟨fun k hk j => h k (hk.trans n.le_succ) j, fun j _ => h (n + 1) le_rfl j⟩⟩
    rcases Nat.lt_or_ge n k with h' | h'
    · rw [le_antisymm hk h']; exact h.2 j (Finset.mem_univ j)
    · exact h.1 k h' j

variable {sc} (htop : ∀ n j, sc n j ≠ ⊤) (hbot : ∃ j, sc 0 j ≠ ⊥)
include htop hbot

theorem stepM_real [Nonempty J] (n : ℕ) : IsReal (stepM sc n) := by
  refine ⟨fun h => ?_, ?_⟩
  · obtain ⟨j, hj⟩ := hbot
    exact hj (le_bot_iff.1 (h ▸ (stepM_le sc n _).1 le_rfl 0 n.zero_le j))
  · have key : ∀ k, Finset.univ.sup (sc k) ≠ ⊤ := fun k => ne_of_lt ((Finset.sup_lt_iff (by exact bot_lt_top)).2 fun j _ => lt_top_iff_ne_top.2 (htop k j))
    induction n with
    | zero => exact key 0
    | succ n ih => unfold stepM; exact ne_of_lt (max_lt (lt_top_iff_ne_top.2 ih) (lt_top_iff_ne_top.2 (key _)))

/-- The running weighted sum, all its weights against the maximum reached. -/
theorem stepA_eq [Nonempty J] (n : ℕ) : stepA sc V n = ∑ k ∈ Finset.range (n + 1), ∑ j, Ideal.exp (sc k j - stepM sc n) * V k j := by
  induction n with
  | zero => rw [Finset.sum_range_one]; rfl
  | succ n ih =>
    have hm := stepM_real htop hbot n
    have hm' := stepM_real htop hbot (n + 1)
    have ht : Ideal.exp (stepM sc n - stepM sc (n + 1)) ≠ ⊤ := exp_ne_top (sub_ne_top hm.2 hm')
    rw [Finset.sum_range_succ]
    unfold stepA
    rw [ih, mul_comm, mul_sum_real _ (exp_nonneg _) ht]
    congr 1
    refine Finset.sum_congr rfl fun k _ => ?_
    rw [mul_sum_real _ (exp_nonneg _) ht]
    refine Finset.sum_congr rfl fun j _ => ?_
    rw [← mul_assoc, mul_comm (Ideal.exp _), exp_rescale (htop k j) hm hm']

omit htop hbot in
theorem stepL_one (n : ℕ) : stepL sc n = stepA sc (fun _ _ => 1) n := by
  induction n with
  | zero => unfold stepL stepA; simp only [mul_one]
  | succ n ih => unfold stepL stepA; simp only [mul_one, ih]

theorem stepL_eq [Nonempty J] (n : ℕ) : stepL sc n = ∑ k ∈ Finset.range (n + 1), ∑ j, Ideal.exp (sc k j - stepM sc n) := by
  rw [stepL_one, stepA_eq _ htop hbot]; simp only [mul_one]

theorem stepL_pos [Nonempty J] (n : ℕ) : 0 < stepL sc n := by
  rw [stepL_eq htop hbot]
  obtain ⟨j, hj⟩ := hbot
  have h1 : 0 < Ideal.exp (sc 0 j - stepM sc n) := exp_pos (sub_ne_bot hj (stepM_real htop ⟨j, hj⟩ n))
  refine h1.trans_le ((Finset.single_le_sum (f := fun j => Ideal.exp (sc 0 j - stepM sc n)) (fun i _ => exp_nonneg _) (Finset.mem_univ j)).trans
    (Finset.single_le_sum (f := fun k => ∑ j, Ideal.exp (sc k j - stepM sc n)) (fun k _ => Finset.sum_nonneg fun i _ => exp_nonneg _)
      (Finset.mem_range.2 n.succ_pos)))

/-- What the steps compute: the mean of the values with the softmax's weights. -/
theorem online [Nonempty J] (n : ℕ) :
    Ideal.div (stepA sc V n) (stepL sc n) = ∑ k ∈ Finset.range (n + 1), ∑ j, V k j * Ideal.div (Ideal.exp (sc k j - stepM sc n)) (stepL sc n) := by
  have hL := stepL_pos htop hbot n
  have hdiv : ∀ x, Ideal.div x (stepL sc n) = x * (stepL sc n)⁻¹ := fun x => by unfold Ideal.div; rw [if_neg hL.ne']
  have h0 : 0 ≤ (stepL sc n)⁻¹ := EReal.inv_nonneg_of_nonneg hL.le
  have ht : (stepL sc n)⁻¹ ≠ ⊤ := (EReal.inv_lt_top _).ne
  simp only [hdiv]
  rw [stepA_eq V htop hbot, mul_comm, mul_sum_real _ h0 ht]
  refine Finset.sum_congr rfl fun k _ => ?_
  rw [mul_sum_real _ h0 ht]
  refine Finset.sum_congr rfl fun j _ => ?_
  ac_rfl

end Cert.Attn

end
-- ==== Proof.Val.Read.lean ====
/-
# The kernel's values at an index

The functions of Values.lean, read at one index over the extended reals: each query row runs the softmax in steps of
Online.lean over the masked scores `ksc`, and the result is the heads' means taken through the output weights.
-/
module

public import proofs.«01_k».proof.Proof.Val.Masks
public import proofs.«01_k».proof.Proof.Val.Online

@[expose] public section

set_option maxRecDepth 16384

noncomputable section

namespace Cert.Attn

open Cert.KernelIdeal Cert.KernelIdeal.Gen

open Idealize.ShloMosaic

variable (m : (ℓ : Loc nD τ sig) → Buf (Elt Ideal) ℓ) (ρ : Dev nD → PrngReg)

/-! ## Reads -/

theorem head_apply (h : Fin 4) (X : FVec Ideal S256x256 .bf16) (i : Fin 256) (d : Fin 64) : head h X (ix2 i d) = X (ix2 i (hcol h d)) := by
  pointwise [head]
  exact congrArg (fun e : Fin 256 => X (ix2 i e)) (Fin.ext (congrArg (· + d.val) (Nat.mul_comm 64 h.val)))

theorem qS_apply (c : Dev nD) (b : Fin 2) (i e : Fin 256) :
    qS m ρ c b (ix2 i e) = (∑ f : Fin 512, xstg m ρ c (ix3 b i f) * wqstg m ρ c (ix2 f e)) * c8 := by
  pointwise [qS, k0_pay10, k0_pay9]
  refine congrArg (fun z : EReal => z * c8) (Finset.sum_congr rfl fun f _ => congrArg (fun z : EReal => z * wqstg m ρ c (ix2 f e)) ?_)
  exact congrArg (xstg m ρ c) (funext fun a => Fin.ext (by
    match a with
    | 0 => show b.val + 1 * 0 = b.val; omega
    | 1 => show 0 + 1 * i.val = i.val; omega
    | 2 => show 0 + 1 * f.val = f.val; omega))

/-- The slot of the buffers that step `n` reads. -/
def slotOf (c : Fin 4) : ℕ → Fin 4
  | 0 => c
  | 1 => 2
  | 2 => 1
  | _ => 0

theorem tile_apply (v : Bool) (c : Dev nD) (o : Fin 4) (b : Fin 2) (i e : Fin 256) :
    tile m ρ v c o b (ix4 0 0 i e) = if o.val ≤ c.val then blkOf m ρ v o (ix3 b i e) else (0 : EReal) := by
  have hidx : ∀ f : S4x2x256x256.Idx → Elt Ideal .bf16, f ((Rect.unit (s := S4x2x256x256) ![o.val, b.val, 0, 0] S1x1x256x256.size (inb_tile o b)).toLoadRect.idx (ix4 0 0 i e)) = f (ix4 o b i e) := fun f =>
    congrArg f (funext fun a => Fin.ext (by
      match a with
      | 0 => show o.val + 1 * 0 = o.val; omega
      | 1 => show b.val + 1 * 0 = b.val; omega
      | 2 => show 0 + 1 * i.val = i.val; omega
      | 3 => show 0 + 1 * e.val = e.val; omega))
  have key : ∀ v, filled m ρ v c (ix4 o b i e) = if o.val ≤ c.val then blkOf m ρ v o (ix3 b i e) else (0 : EReal) := fun v => by
    unfold filled
    refine if_congr Iff.rfl (congrArg (blkOf m ρ v o) (funext fun a => ?_)) Ideal.ofBits_zero_bf16
    match a with
    | 0 => rfl
    | 1 => rfl
    | 2 => rfl
  cases v with
  | false => exact (hidx _).trans (key false)
  | true => exact (hidx _).trans (key true)

theorem kvS_apply (v : Bool) (c : Dev nD) (n : ℕ) (b : Fin 2) (i e : Fin 256) :
    kvS m ρ v c n b (ix2 i e) = if (slotOf c n).val ≤ c.val then blkOf m ρ v (slotOf c n) (ix3 b i e) else (0 : EReal) := by
  have h0 : ∀ f : S2x256x256.Idx → Elt Ideal .bf16, f ((Rect.unit (s := S2x256x256) ![b.val, 0, 0] S1x256x256.size (inb_blk b)).toLoadRect.idx (ix3 0 i e)) = f (ix3 b i e) := fun f =>
    congrArg f (funext fun a => Fin.ext (by
      match a with
      | 0 => show b.val + 1 * 0 = b.val; omega
      | 1 => show 0 + 1 * i.val = i.val; omega
      | 2 => show 0 + 1 * e.val = e.val; omega))
  match n with
  | 0 =>
    refine Eq.trans ?_ (if_pos (le_refl c.val)).symm
    unfold kvS
    cases v with
    | false => pointwise [k0_pay18]; exact h0 _
    | true => pointwise [k0_pay18]; exact h0 _
  | 1 => unfold kvS; pointwise [k0_pay65]; exact tile_apply m ρ v c 2 b i e
  | 2 => unfold kvS; pointwise [k0_pay65]; exact tile_apply m ρ v c 1 b i e
  | _ + 3 => unfold kvS; pointwise [k0_pay65]; exact tile_apply m ρ v c 0 b i e

/-! ## The softmax in steps -/

/-- The masked scores of a query row in step `n`. -/
def ksc (c : Fin 4) (b : Fin 2) (h : Fin 4) (i : Fin 256) (n : ℕ) (j : Fin 256) : EReal :=
  if vis c n i j then ∑ d : Fin 64, qS m ρ c b (ix2 i (hcol h d)) * kvS m ρ false c n b (ix2 j (hcol h d)) else ⊥

theorem mask_named : (Named.named (F := Ideal) (φ := .f32) κ "mask" 0xCE6E6B28#32 : EReal) = ⊥ := rfl

theorem scS_apply (c : Dev nD) (n : ℕ) (b : Fin 2) (h : Fin 4) (i j : Fin 256) : scS m ρ c n b h (ix2 i j) = ksc m ρ c b h i n j := by
  pointwise [scS, dotS, maskS]
  rw [mk_val, select_ite, mask_named]
  simp only [head_apply]
  rfl

theorem rowMax_apply (s : FVec Ideal S256x256 .f32) (i : Fin 256) : rowMax s (ix2 i 0) = Finset.univ.sup fun j : Fin 256 => (s (ix2 i j) : EReal) := by
  pointwise [rowMax]
  rw [ofBits_neg_inf]
  rfl

theorem rowSum_apply (s : FVec Ideal S256x256 .f32) (i : Fin 256) : rowSum s (ix2 i 0) = ∑ j : Fin 256, (s (ix2 i j) : EReal) := by
  pointwise [rowSum]

theorem mS_apply (c : Dev nD) (n : ℕ) (b : Fin 2) (h : Fin 4) (i : Fin 256) : mS m ρ c n b h (ix2 i 0) = stepM (ksc m ρ c b h i) n := by
  induction n with
  | zero => unfold mS stepM; rw [rowMax_apply]; simp only [scS_apply]
  | succ n ih =>
    pointwise [mS]
    unfold stepM
    rw [rowMax_apply, ih]; simp only [scS_apply]

theorem pS_apply (c : Dev nD) (n : ℕ) (b : Fin 2) (h : Fin 4) (i j : Fin 256) :
    pS m ρ c n b h (ix2 i j) = Ideal.exp (ksc m ρ c b h i n j - stepM (ksc m ρ c b h i) n) := by
  pointwise [pS, dS]
  rw [scS_apply, mS_apply]

theorem lS_apply (c : Dev nD) (n : ℕ) (b : Fin 2) (h : Fin 4) (i : Fin 256) : lS m ρ c n b h (ix2 i 0) = stepL (ksc m ρ c b h i) n := by
  induction n with
  | zero => unfold lS stepL; rw [rowSum_apply]; simp only [pS_apply]
  | succ n ih =>
    pointwise [lS, alS]
    unfold stepL
    rw [rowSum_apply, ih, mS_apply, mS_apply]; simp only [pS_apply]

/-- The values of step `n` in column `e`. -/
def kval (c : Fin 4) (b : Fin 2) (e : Fin 256) (n : ℕ) (j : Fin 256) : EReal := kvS m ρ true c n b (ix2 j e)

theorem pvS_apply (c : Dev nD) (n : ℕ) (b : Fin 2) (h : Fin 4) (i : Fin 256) (d : Fin 64) :
    pvS m ρ c n b h (ix2 i d) = ∑ j : Fin 256, Ideal.exp (ksc m ρ c b h i n j - stepM (ksc m ρ c b h i) n) * kval m ρ c b (hcol h d) n j := by
  pointwise [pvS]
  simp only [pS_apply, head_apply]
  rfl

theorem aS_apply (c : Dev nD) (n : ℕ) (b : Fin 2) (h : Fin 4) (i : Fin 256) (d : Fin 64) :
    aS m ρ c n b h (ix2 i d) = stepA (ksc m ρ c b h i) (kval m ρ c b (hcol h d)) n := by
  induction n with
  | zero => unfold aS stepA; rw [pvS_apply]
  | succ n ih =>
    pointwise [aS, scaleS, alS]
    unfold stepA
    rw [pvS_apply, ih, mS_apply, mS_apply]

theorem ctxS_apply (c : Dev nD) (b : Fin 2) (h : Fin 4) (i : Fin 256) (d : Fin 64) :
    ctxS m ρ c b h (ix2 i d) = Ideal.div (stepA (ksc m ρ c b h i) (kval m ρ c b (hcol h d)) 3) (stepL (ksc m ρ c b h i) 3) := by
  pointwise [ctxS]
  rw [aS_apply, lS_apply]

/-! ## The result -/

/-- Column `e` of the heads' results side by side. -/
def kctx (c : Fin 4) (b : Fin 2) (i e : Fin 256) : EReal :=
  Ideal.div (stepA (ksc m ρ c b (hOf e) i) (kval m ρ c b e) 3) (stepL (ksc m ρ c b (hOf e) i) 3)

theorem kctx_of (c : Dev nD) (b : Fin 2) (h : Fin 4) (i e : Fin 256) (d : Fin 64) (he : e.val = h.val * 64 + d.val) :
    ctxS m ρ c b h (ix2 i d) = kctx m ρ c b i e := by
  have h1 : hcol h d = e := Fin.ext he.symm
  have h2 : hOf e = h := Fin.ext (show e.val / 64 = h.val by omega)
  rw [ctxS_apply, h1]; unfold kctx; rw [h2]

theorem cat_apply (c : Dev nD) (b : Fin 2) (i e : Fin 256) :
    (concatenate S256x256 1 [⟨S256x64, ctxS m ρ c b 0⟩, ⟨S256x64, ctxS m ρ c b 1⟩, ⟨S256x64, ctxS m ρ c b 2⟩, ⟨S256x64, ctxS m ρ c b 3⟩]
      concatenates_S256x64_S256x64_S256x64_S256x64_S256x256_d1) (ix2 i e) = kctx m ρ c b i e := by
  pointwise
  split
  · exact kctx_of m ρ c b 0 i e _ (by show e.val = 0 * 64 + e.val; omega)
  · split
    · exact kctx_of m ρ c b 1 i e _ (by show e.val = 1 * 64 + (e.val - 64); omega)
    · split
      · exact kctx_of m ρ c b 2 i e _ (by show e.val = 2 * 64 + (e.val - 64 - 64); omega)
      · exact kctx_of m ρ c b 3 i e _ (by show e.val = 3 * 64 + (e.val - 64 - 64 - 64); omega)

theorem outS_apply (c : Dev nD) (b : Fin 2) (i : Fin 256) (n : Fin 512) :
    outS m ρ c b (ix3 0 i n) = ∑ e : Fin 256, kctx m ρ c b i e * wostg m ρ c (ix2 e n) := by
  have hc := cat_apply m ρ c b i
  unfold outS
  generalize (concatenate S256x256 1 [⟨S256x64, ctxS m ρ c b 0⟩, ⟨S256x64, ctxS m ρ c b 1⟩, ⟨S256x64, ctxS m ρ c b 2⟩, ⟨S256x64, ctxS m ρ c b 3⟩]
      concatenates_S256x64_S256x64_S256x64_S256x64_S256x256_d1) = X at hc ⊢
  pointwise [woS, k0_pay13]
  simp only [hc]

theorem outAt_apply (c : Dev nD) (b : Fin 2) (i : Fin 256) (n : Fin 512) :
    outAt m ρ c (ix3 b i n) = ∑ e : Fin 256, kctx m ρ c b i e * wostg m ρ c (ix2 e n) := by
  refine Eq.trans ?_ (outS_apply m ρ c b i n)
  unfold outAt
  refine congrArg (outS m ρ c b) (funext fun a => ?_)
  match a with
  | 0 => rfl
  | 1 => rfl
  | 2 => rfl

end Cert.Attn

end
-- ==== Proof.Val.Ref.lean ====
/-
# What the reference computes

The reference's result at one index, in sums and one maximum: for a batch row, a head and a query row, `rsc` is the row of
masked scores, and the result is the mean of the values with the softmax's weights, taken through the output weights.
Every query row sees its own key, so the reference's two guards against a row that sees none are never used.
-/
module

public import proofs.«01_k».proof.Proof.Gen.ReferenceIdeal.Read
public import proofs.«01_k».proof.Proof.Val.Online
public import Idealize.ShloMosaic.Lib.Pointwise

@[expose] public section

set_option maxRecDepth 16384

noncomputable section

namespace Cert.Attn

open Cert.ReferenceIdeal Cert.ReferenceIdeal.Gen Cert.ReferenceIdeal.Read

open Idealize.ShloMosaic

variable (x : S2x1024x512.Idx → EReal) (wq : S512x256.Idx → EReal) (k v : S2x1024x256.Idx → EReal) (wo : S256x512.Idx → EReal)

/-- The masked scores of a query row. -/
def rsc (b : Fin 2) (h : Fin 4) (i j : Fin 1024) : EReal :=
  if j.val / 64 ≤ i.val / 64 then
    (∑ d : Fin 64, (∑ e : Fin 512, x (ix3 b i e) * wq (ix2 e (hcol h d))) * k (ix3 b j (hcol h d))) * c8
  else ⊥

/-- The greatest score and the sum of the weights. -/
def rM (b : Fin 2) (h : Fin 4) (i : Fin 1024) : EReal := Finset.univ.sup (rsc x wq k b h i)
def rL (b : Fin 2) (h : Fin 4) (i : Fin 1024) : EReal := ∑ j, Ideal.exp (rsc x wq k b h i j - rM x wq k b h i)

/-- One head's result. -/
def rctx (b : Fin 2) (i : Fin 1024) (e : Fin 256) : EReal :=
  ∑ j : Fin 1024, v (ix3 b j e) * Ideal.div (Ideal.exp (rsc x wq k b (hOf e) i j - rM x wq k b (hOf e) i)) (rL x wq k b (hOf e) i)

theorem word_div : ∀ i : Fin 1024,
    Scalar.select
      (IntOp.andi
        (IntOp.cmpi .ne (if BitVec.ofNat 32 i.val = 0 then 0 else if (BitVec.ofNat 32 i.val).msb = true then -1 else 1 : BitVec 32)
          (if 64#32 = 0 then 0 else if BitVec.msb (64#32) = true then -1 else 1 : BitVec 32))
        (IntOp.cmpi .ne (IntOp.remsi .host (BitVec.ofNat 32 i.val) (64#32)) 0#32))
      (IntOp.subi (IntOp.divsi .host (BitVec.ofNat 32 i.val) (64#32)) 1#32)
      (IntOp.divsi .host (BitVec.ofNat 32 i.val) (64#32))
    = BitVec.ofNat 32 (i.val / 64) := by decide +kernel

theorem rblk0 (i : Fin 1024) : val_main_v11 (F := Ideal) (ix1 i) = BitVec.ofNat 32 (i.val / 64) := by
  pointwise [val_main_v11, val_main_call0_v11, val_main_call0_v13, val_main_call0_v2, val_main_call0_v6, val_main_call0_v10, val_main_call0_v8,
    val_main_call0_v9, val_main_call0_v12, val_main_call0_v1, val_main_call0_v3, val_main_call0_v5, val_main_call0_v7, val_main_call0_v4,
    val_main_call0_c, val_main_call0_c_0, val_main_call0_v0, val_main_c, val_main_v10, id]
  exact word_div i

theorem rblk1 (i : Fin 1024) : val_main_v14 (F := Ideal) (ix1 i) = BitVec.ofNat 32 (i.val / 64) := rblk0 i

theorem word_le : ∀ a b : Fin 16, IntOp.cmpi .sle (BitVec.ofNat 32 a.val) (BitVec.ofNat 32 b.val) = if a.val ≤ b.val then 1#1 else 0#1 := by
  decide +kernel

theorem rmask (i j : Fin 1024) : val_main_v18 (F := Ideal) (ix2 i j) = if j.val / 64 ≤ i.val / 64 then 1#1 else 0#1 := by
  pointwise [val_main_v18, val_main_v17, val_main_v16, val_main_v15, val_main_v12]
  rw [rblk0, rblk1]
  exact word_le ⟨j.val / 64, by omega⟩ ⟨i.val / 64, by omega⟩

theorem rscore (b : Fin 2) (h : Fin 4) (i j : Fin 1024) : val_main_v25 (F := Ideal) x wq k (ix4 b h i j) = rsc x wq k b h i j := by
  have h23 : val_main_v23 (F := Ideal) x wq k (ix4 b h i j)
      = (∑ d : Fin 64, (∑ e : Fin 512, x (ix3 b i e) * wq (ix2 e (hcol h d))) * k (ix3 b j (hcol h d))) * c8 := by
    pointwise [val_main_v23, val_main_v22, val_main_v21, val_main_v20, val_main_v19, val_main_cst, val_main_v9, val_main_v8, val_main_v7,
      val_main_v6, val_main_v5, val_main_v4, val_main_v1, val_main_v0]
    rfl
  pointwise [val_main_v25, val_main_call2_v1, val_main_v24, val_main_call2_v2, val_main_call2_v0, val_main_cst_1, id]
  rw [h23, rmask, select_ite, ofBits_neg_inf]
  rfl

theorem rmax (b : Fin 2) (h : Fin 4) (i : Fin 1024) : val_main_v26 (F := Ideal) x wq k (ix3 b h i) = rM x wq k b h i := by
  pointwise [val_main_v26, val_main_cst_2]
  simp only [rscore, ofBits_neg_inf]
  rfl

theorem fold_ori_one {ι : Type} [DecidableEq ι] (s : Finset ι) (f : ι → BitVec 1) (a : ι) (ha : a ∈ s) (hf : f a = 1#1) :
    s.fold IntOp.ori 0#1 f = 1#1 := by
  rw [← Finset.insert_erase ha, Finset.fold_insert (Finset.notMem_erase a s), hf]
  generalize Finset.fold IntOp.ori 0#1 f (s.erase a) = y
  revert y; decide

theorem rkeep (i : Fin 1024) : val_main_v31 (F := Ideal) (ix1 i) = 1#1 := by
  pointwise [val_main_v31, val_main_c_3]
  exact fold_ori_one _ _ i (Finset.mem_univ i) (by rw [rmask, if_pos le_rfl])

theorem rweight (b : Fin 2) (h : Fin 4) (i j : Fin 1024) :
    val_main_v39 (F := Ideal) x wq k (ix4 b h i j) = Ideal.div (Ideal.exp (rsc x wq k b h i j - rM x wq k b h i)) (rL x wq k b h i) := by
  pointwise [val_main_v39, val_main_call4_v1, val_main_v38, val_main_v37, val_main_v36, val_main_v35, val_main_v34, val_main_v33, val_main_v32,
    val_main_call3_v1, val_main_call3_v2, val_main_call3_v0, val_main_cst_5, val_main_call4_v2, val_main_call4_v0, val_main_cst_6, val_main_cst_4,
    val_main_v30, val_main_v29, val_main_v28, val_main_v27]
  simp only [rkeep, rscore, rmax]
  rfl

/-- The reference's result. -/
theorem rout (b : Fin 2) (i : Fin 1024) (n : Fin 512) :
    val_main_v44 (F := Ideal) x wq k v wo (ix3 b i n) = ∑ e : Fin 256, rctx x wq k v b i e * wo (ix2 e n) := by
  pointwise [val_main_v44, val_main_v43, val_main_v42, val_main_v41, val_main_v40, val_main_v3, val_main_v2]
  refine Finset.sum_congr rfl fun e _ => ?_
  refine congrArg (fun z : EReal => z * wo (ix2 e n)) ?_
  exact Finset.sum_congr rfl fun j _ => congrArg _ (rweight x wq k b (hOf e) i j)

end Cert.Attn

end
-- ==== Proof.Val.Equal.lean ====
/-
# The kernel's rows are the reference's

A query row of device `c` meets the keys of its own block and of the slots below `c`; the keys above carry the score `⊥` in
the reference too. So the kernel's four steps run over the same scores as the reference's row, and the softmax in steps is
the reference's softmax.
-/
module

public import proofs.«01_k».proof.Proof.Val.Read
public import proofs.«01_k».proof.Proof.Val.Ref

@[expose] public section

set_option maxRecDepth 16384

noncomputable section

namespace Cert.Attn

open Cert.KernelIdeal

open Idealize.ShloMosaic

/-! ## Positions in the whole sequence -/

/-- Row `j` of device `o`'s block. -/
def seqPos (o : Fin 4) (j : Fin 256) : Fin 1024 := ⟨o.val * 256 + j.val, by omega⟩

theorem seqPos_surj (J : Fin 1024) : ∃ o j, seqPos o j = J :=
  ⟨⟨J.val / 256, by omega⟩, ⟨J.val % 256, by omega⟩, Fin.ext (show J.val / 256 * 256 + J.val % 256 = J.val by omega)⟩

theorem sum_seqPos (f : Fin 1024 → EReal) : ∑ J, f J = ∑ o : Fin 4, ∑ j : Fin 256, f (seqPos o j) := by
  rw [← Equiv.sum_comp (finProdFinEquiv (m := 4) (n := 256)) f, Fintype.sum_prod_type]
  refine Finset.sum_congr rfl fun o _ => Finset.sum_congr rfl fun j _ => congrArg f (Fin.ext ?_)
  show j.val + 256 * o.val = o.val * 256 + j.val
  omega

/-- Whether step `n` of device `c` counts. -/
def live (c : Fin 4) (n : ℕ) : Prop := n = 0 ∨ (slotOf c n).val < c.val

instance (c : Fin 4) (n : ℕ) : Decidable (live c n) := by unfold live; infer_instance

theorem live_le {c : Fin 4} {n : ℕ} (h : live c n) : (slotOf c n).val ≤ c.val := by
  rcases h with rfl | h
  · exact le_rfl
  · exact h.le

/-- The steps that count are the slots up to `c`. -/
theorem steps_sum (c : Fin 4) (G : Fin 4 → EReal) (hG : ∀ o : Fin 4, c.val < o.val → G o = 0) :
    ∑ n ∈ Finset.range 4, (if live c n then G (slotOf c n) else 0) = ∑ o, G o := by
  simp only [Finset.sum_range_succ, Finset.sum_range_zero, Fin.sum_univ_four]
  match c with
  | 0 => rw [hG 1 (by decide), hG 2 (by decide), hG 3 (by decide)]; simp [live, slotOf]
  | 1 => rw [hG 2 (by decide), hG 3 (by decide)]; simp [live, slotOf]; ac_rfl
  | 2 => rw [hG 3 (by decide)]; simp [live, slotOf]; ac_rfl
  | 3 => simp [live, slotOf]; ac_rfl

theorem slot_of_le (c o : Fin 4) (h : o.val ≤ c.val) : ∃ n ≤ 3, live c n ∧ slotOf c n = o := by
  revert c o; decide

/-! ## The scores -/

variable (m : (ℓ : Loc nD τ sig) → Buf (Elt Ideal) ℓ) (ρ : Dev nD → PrngReg)

/-- What the devices hold, as blocks of the whole arrays. -/
structure Shards (X : (⟨3, ![2, 1024, 512]⟩ : Shape).Idx → EReal) (Wq : (⟨2, ![512, 256]⟩ : Shape).Idx → EReal)
    (K V : (⟨3, ![2, 1024, 256]⟩ : Shape).Idx → EReal) (Wo : (⟨2, ![256, 512]⟩ : Shape).Idx → EReal) : Prop where
  x : ∀ (c : Fin 4) (b : Fin 2) (i : Fin 256) (f : Fin 512), xstg m ρ c (ix3 b i f) = X (ix3 b (seqPos c i) f)
  wq : ∀ (c : Fin 4) (f : Fin 512) (e : Fin 256), wqstg m ρ c (ix2 f e) = Wq (ix2 f e)
  k : ∀ (o : Fin 4) (b : Fin 2) (j e : Fin 256), blkOf m ρ false o (ix3 b j e) = K (ix3 b (seqPos o j) e)
  v : ∀ (o : Fin 4) (b : Fin 2) (j e : Fin 256), blkOf m ρ true o (ix3 b j e) = V (ix3 b (seqPos o j) e)
  wo : ∀ (c : Fin 4) (e : Fin 256) (n : Fin 512), wostg m ρ c (ix2 e n) = Wo (ix2 e n)

variable {m ρ} {X : (⟨3, ![2, 1024, 512]⟩ : Shape).Idx → EReal} {Wq : (⟨2, ![512, 256]⟩ : Shape).Idx → EReal}
  {K V : (⟨3, ![2, 1024, 256]⟩ : Shape).Idx → EReal} {Wo : (⟨2, ![256, 512]⟩ : Shape).Idx → EReal}
  (H : Shards m ρ X Wq K V Wo)

theorem vis_iff (c : Fin 4) (n : ℕ) (i j : Fin 256) :
    vis c n i j ↔ live c n ∧ (seqPos (slotOf c n) j).val / 64 ≤ (seqPos c i).val / 64 := by
  match n with
  | 0 =>
    show j.val / 64 ≤ i.val / 64 ↔ (0 = 0 ∨ c.val < c.val) ∧ (c.val * 256 + j.val) / 64 ≤ (c.val * 256 + i.val) / 64
    omega
  | 1 =>
    show 2 < c.val ∧ 8 + j.val / 64 ≤ 4 * c.val + i.val / 64 ↔ (1 = 0 ∨ 2 < c.val) ∧ (2 * 256 + j.val) / 64 ≤ (c.val * 256 + i.val) / 64
    omega
  | 2 =>
    show 1 < c.val ∧ 4 + j.val / 64 ≤ 4 * c.val + i.val / 64 ↔ (2 = 0 ∨ 1 < c.val) ∧ (1 * 256 + j.val) / 64 ≤ (c.val * 256 + i.val) / 64
    omega
  | n + 3 =>
    show 0 < c.val ∧ 0 + j.val / 64 ≤ 4 * c.val + i.val / 64 ↔ (n + 3 = 0 ∨ 0 < c.val) ∧ (0 * 256 + j.val) / 64 ≤ (c.val * 256 + i.val) / 64
    omega

theorem c8_nonneg : 0 ≤ c8 := by rw [c8_eq]; exact_mod_cast (by norm_num : (0 : ℝ) ≤ 1 / 8)
theorem c8_ne_top : c8 ≠ ⊤ := by rw [c8_eq]; exact EReal.coe_ne_top _

include H in
/-- The kernel's scores are the reference's. -/
theorem ksc_eq (c : Fin 4) (b : Fin 2) (h : Fin 4) (i : Fin 256) (n : ℕ) (j : Fin 256) :
    ksc m ρ c b h i n j = if live c n then rsc X Wq K b h (seqPos c i) (seqPos (slotOf c n) j) else ⊥ := by
  unfold ksc rsc
  by_cases hl : live c n
  · rw [if_pos hl]
    refine if_congr ((vis_iff c n i j).trans (and_iff_right hl)) ?_ rfl
    rw [mul_comm _ c8, mul_sum_real _ c8_nonneg c8_ne_top]
    refine Finset.sum_congr rfl fun d _ => ?_
    rw [qS_apply, kvS_apply, if_pos (live_le hl), H.k, mul_comm _ c8, mul_assoc]
    simp only [H.x, H.wq]
  · rw [if_neg hl, if_neg fun hv => hl ((vis_iff c n i j).1 hv).1]

theorem rsc_above (b : Fin 2) (h : Fin 4) (c o : Fin 4) (i j : Fin 256) (ho : c.val < o.val) :
    rsc X Wq K b h (seqPos c i) (seqPos o j) = ⊥ :=
  if_neg (by show ¬ (o.val * 256 + j.val) / 64 ≤ (c.val * 256 + i.val) / 64; omega)

theorem rsc_self (hX : ∀ i, IsReal (X i)) (hW : ∀ i, IsReal (Wq i)) (hK : ∀ i, IsReal (K i)) (b : Fin 2) (h : Fin 4) (i j : Fin 1024)
    (hij : j.val / 64 ≤ i.val / 64) : IsReal (rsc X Wq K b h i j) := by
  unfold rsc
  rw [if_pos hij]
  exact (IsReal.sum _ fun d => (IsReal.sum _ fun e => (hX _).mul (hW _)).mul (hK _)).mul (by rw [c8_eq]; exact isReal_coe _)

theorem rsc_ne_top (hX : ∀ i, IsReal (X i)) (hW : ∀ i, IsReal (Wq i)) (hK : ∀ i, IsReal (K i)) (b : Fin 2) (h : Fin 4) (i j : Fin 1024) :
    rsc X Wq K b h i j ≠ ⊤ := by
  by_cases hij : j.val / 64 ≤ i.val / 64
  · exact (rsc_self hX hW hK b h i j hij).2
  · unfold rsc; rw [if_neg hij]; exact bot_ne_top

/-! ## The maximum and the sums -/

include H in
theorem stepM_eq (c : Fin 4) (b : Fin 2) (h : Fin 4) (i : Fin 256) : stepM (ksc m ρ c b h i) 3 = rM X Wq K b h (seqPos c i) := by
  refine eq_of_forall_ge_iff fun y => (stepM_le _ 3 y).trans ?_
  unfold rM
  rw [Finset.sup_le_iff]
  constructor
  · intro hy J _
    obtain ⟨o, j, rfl⟩ := seqPos_surj J
    rcases Nat.lt_or_ge c.val o.val with ho | ho
    · rw [rsc_above b h c o i j ho]; exact bot_le
    · obtain ⟨n, hn, hl, rfl⟩ := slot_of_le c o ho
      have := hy n hn j
      rwa [ksc_eq H, if_pos hl] at this
  · intro hy n _ j
    rw [ksc_eq H]
    split
    · exact hy _ (Finset.mem_univ _)
    · exact bot_le

include H in
/-- A sum over the four steps of a term that vanishes where the score is `⊥` is the sum over the whole row. -/
theorem sum_steps (c : Fin 4) (b : Fin 2) (h : Fin 4) (i : Fin 256) (e : Fin 256) (T : EReal → EReal → EReal) (hT : ∀ v, T ⊥ v = 0) :
    ∑ n ∈ Finset.range 4, ∑ j, T (ksc m ρ c b h i n j) (kval m ρ c b e n j)
      = ∑ J, T (rsc X Wq K b h (seqPos c i) J) (V (ix3 b J e)) := by
  rw [sum_seqPos, ← steps_sum c (fun o => ∑ j, T (rsc X Wq K b h (seqPos c i) (seqPos o j)) (V (ix3 b (seqPos o j) e)))
    fun o ho => Finset.sum_eq_zero fun j _ => by rw [rsc_above b h c o i j ho, hT]]
  refine Finset.sum_congr rfl fun n _ => ?_
  split
  · rename_i hl
    refine Finset.sum_congr rfl fun j _ => ?_
    unfold kval
    rw [ksc_eq H, if_pos hl, kvS_apply, if_pos (live_le hl), H.v]
  · rename_i hl
    refine Finset.sum_eq_zero fun j _ => ?_
    rw [ksc_eq H, if_neg hl, hT]

include H in
/-- One head's result at one row. -/
theorem kctx_eq (hX : ∀ i, IsReal (X i)) (hW : ∀ i, IsReal (Wq i)) (hK : ∀ i, IsReal (K i)) (c : Fin 4) (b : Fin 2) (i e : Fin 256) :
    kctx m ρ c b i e = rctx X Wq K V b (seqPos c i) e := by
  have htop : ∀ n j, ksc m ρ c b (hOf e) i n j ≠ ⊤ := fun n j => by
    rw [ksc_eq H]; split
    · exact rsc_ne_top hX hW hK _ _ _ _
    · exact bot_ne_top
  have hbot : ∃ j, ksc m ρ c b (hOf e) i 0 j ≠ ⊥ := ⟨i, by
    rw [ksc_eq H, if_pos (show live c 0 from Or.inl rfl)]
    exact (rsc_self hX hW hK _ _ _ _ le_rfl).1⟩
  have hL : stepL (ksc m ρ c b (hOf e) i) 3 = rL X Wq K b (hOf e) (seqPos c i) := by
    rw [stepL_eq htop hbot, stepM_eq H]
    exact sum_steps H c b (hOf e) i e (fun s _ => Ideal.exp (s - rM X Wq K b (hOf e) (seqPos c i))) fun v => by
      rw [EReal.bot_sub, Ideal.exp_bot]
  have hpos := stepL_pos htop hbot 3
  unfold kctx rctx
  rw [online _ htop hbot, stepM_eq H, hL]
  rw [hL] at hpos
  exact sum_steps H c b (hOf e) i e
    (fun s v => v * Ideal.div (Ideal.exp (s - rM X Wq K b (hOf e) (seqPos c i))) (rL X Wq K b (hOf e) (seqPos c i))) fun v => by
      rw [EReal.bot_sub, Ideal.exp_bot]
      unfold Ideal.div
      rw [if_neg hpos.ne', zero_mul, mul_zero]

include H in
/-- The kernel's result on device `c` is the reference's rows of that device. -/
theorem out_eq (hX : ∀ i, IsReal (X i)) (hW : ∀ i, IsReal (Wq i)) (hK : ∀ i, IsReal (K i)) (c : Fin 4) (b : Fin 2) (i : Fin 256) (n : Fin 512) :
    outAt m ρ c (ix3 b i n) = Cert.ReferenceIdeal.Read.val_main_v44 (F := Ideal) X Wq K V Wo (ix3 b (seqPos c i) n) := by
  rw [outAt_apply, rout]
  refine Finset.sum_congr rfl fun e _ => ?_
  rw [kctx_eq H hX hW hK, H.wo]

end Cert.Attn

end
-- ==== Proof.Val.Close.lean ====
/-
# The value claim

The precondition says that the queries' input, the query weights and the keys are real numbers. Under it the kernel leaves
on each device that device's block of the reference's result.
-/
module

public import proofs.«01_k».proof.Defs
public import proofs.«01_k».proof.Proof.Kern.Frames
public import proofs.«01_k».proof.Proof.Val.Equal

@[expose] public section

set_option maxRecDepth 16384

noncomputable section

namespace Cert.Attn

open Cert.KernelIdeal Cert.KernelIdeal.Gen

open Idealize.ShloMosaic
open Idealize.ShloMosaic.TcCoe

/-! ## The precondition's side conditions -/

theorem pre_kernel_facts : Cert.Pre_finite_KernelIdeal.Facts :=
  ⟨by decide, by decide, by decide, by decide⟩
theorem pre_reference_facts : Cert.Pre_finite_ReferenceIdeal.Facts :=
  ⟨by decide, by decide, by decide, by decide⟩

attribute [local instance] pre_kernel_facts

/-! ## Windows are whole buffers -/

theorem read_win0 (f : S2x256x512.Idx → Elt Ideal .bf16) : (win0_0.blk (0 : Fin 1)).view.read (Elt Ideal) f = f :=
  Memref.read_access_unit_zero (Elt Ideal) main_arg0 (off := fun a => (win0_0.index (0 : Fin 1)) a * main_arg0.ty.shape.size a)
    (funext fun a => by fin_cases a <;> decide) (fun a => by fin_cases a <;> decide) f
theorem read_win1 (f : S512x256.Idx → Elt Ideal .bf16) : (win0_1.blk (0 : Fin 1)).view.read (Elt Ideal) f = f :=
  Memref.read_access_unit_zero (Elt Ideal) main_arg1 (off := fun a => (win0_1.index (0 : Fin 1)) a * main_arg1.ty.shape.size a)
    (funext fun a => by fin_cases a <;> decide) (fun a => by fin_cases a <;> decide) f
theorem read_win2 (f : S2x256x256.Idx → Elt Ideal .bf16) : (win0_2.blk (0 : Fin 1)).view.read (Elt Ideal) f = f :=
  Memref.read_access_unit_zero (Elt Ideal) main_arg2 (off := fun a => (win0_2.index (0 : Fin 1)) a * main_arg2.ty.shape.size a)
    (funext fun a => by fin_cases a <;> decide) (fun a => by fin_cases a <;> decide) f
theorem read_win3 (f : S2x256x256.Idx → Elt Ideal .bf16) : (win0_3.blk (0 : Fin 1)).view.read (Elt Ideal) f = f :=
  Memref.read_access_unit_zero (Elt Ideal) main_arg3 (off := fun a => (win0_3.index (0 : Fin 1)) a * main_arg3.ty.shape.size a)
    (funext fun a => by fin_cases a <;> decide) (fun a => by fin_cases a <;> decide) f
theorem read_win4 (f : S256x512.Idx → Elt Ideal .bf16) : (win0_4.blk (0 : Fin 1)).view.read (Elt Ideal) f = f :=
  Memref.read_access_unit_zero (Elt Ideal) main_arg4 (off := fun a => (win0_4.index (0 : Fin 1)) a * main_arg4.ty.shape.size a)
    (funext fun a => by fin_cases a <;> decide) (fun a => by fin_cases a <;> decide) f
theorem read_win5 (f : S2x256x512.Idx → Elt Ideal .f32) : (win0_5.blk (0 : Fin 1)).view.read (Elt Ideal) f = f :=
  Memref.read_access_unit_zero (Elt Ideal) main_v1 (off := fun a => (win0_5.index (0 : Fin 1)) a * main_v1.ty.shape.size a)
    (funext fun a => by fin_cases a <;> decide) (fun a => by fin_cases a <;> decide) f

/-! ## Real numbers, from the precondition -/

theorem ofBits_pos_inf : Ideal.ofBits .f32 0x7F800000#32 = ⊤ := by simp [Ideal.ofBits, Ideal.ieee]

theorem isReal_of_bits (x : EReal)
    (h : IntOp.andi (BitVec.ofBool (decide (Ideal.ofBits .f32 0xFF800000#32 < x))) (BitVec.ofBool (decide (x < Ideal.ofBits .f32 0x7F800000#32))) = 1#1) :
    IsReal x := by
  rw [ofBits_neg_inf, ofBits_pos_inf] at h
  have key : ∀ p q : Bool, IntOp.andi (BitVec.ofBool p) (BitVec.ofBool q) = 1#1 → p = true ∧ q = true := by decide
  obtain ⟨h1, h2⟩ := key _ _ h
  exact ⟨(bot_lt_iff_ne_bot.1 (of_decide_eq_true h1)), (lt_top_iff_ne_top.1 (of_decide_eq_true h2))⟩

theorem pre_real (x : FVec Ideal S2x256x512 .bf16) (w : FVec Ideal S512x256 .bf16) (k v : FVec Ideal S2x256x256 .bf16) (wo : FVec Ideal S256x512 .bf16)
    (hx : (Cert.Pre_finite_KernelIdeal.fn (F := Ideal) x w k v wo).1 = fun _ => 1#1)
    (hw : (Cert.Pre_finite_KernelIdeal.fn (F := Ideal) x w k v wo).2.1 = fun _ => 1#1)
    (hk : (Cert.Pre_finite_KernelIdeal.fn (F := Ideal) x w k v wo).2.2 = fun _ => 1#1) :
    (∀ i, IsReal (x i)) ∧ (∀ i, IsReal (w i)) ∧ ∀ i, IsReal (k i) := by
  refine ⟨fun i => ?_, fun i => ?_, fun i => ?_⟩
  · have h := congrFun hx i
    idx_vars i
    pointwise [Cert.Pre_finite_KernelIdeal.fn, Cert.Pre_finite_KernelIdeal.fn_part1] at h
    exact isReal_of_bits _ h
  · have h := congrFun hw i
    idx_vars i
    pointwise [Cert.Pre_finite_KernelIdeal.fn, Cert.Pre_finite_KernelIdeal.fn_part1] at h
    exact isReal_of_bits _ h
  · have h := congrFun hk i
    idx_vars i
    pointwise [Cert.Pre_finite_KernelIdeal.fn, Cert.Pre_finite_KernelIdeal.fn_part1] at h
    exact isReal_of_bits _ h

/-! ## Blocks of the whole arrays -/

theorem block_x {α : Type} (X : (⟨3, ![2, 1024, 512]⟩ : Shape).Idx → α) (c : Fin 4) (b : Fin 2) (i : Fin 256) (f : Fin 512) :
    (Layout.block ⟨3, ![2, 256, 512]⟩ ⟨3, ![2, 1024, 512]⟩ 1 4 c X : (⟨3, ![2, 256, 512]⟩ : Shape).Idx → α) (ix3 b i f) = X (ix3 b (seqPos c i) f) :=
  congrArg X (funext fun a => Fin.ext (by
    match a with
    | 0 => rfl
    | 1 => rfl
    | 2 => rfl))

theorem block_k {α : Type} (X : (⟨3, ![2, 1024, 256]⟩ : Shape).Idx → α) (c : Fin 4) (b : Fin 2) (i : Fin 256) (f : Fin 256) :
    (Layout.block ⟨3, ![2, 256, 256]⟩ ⟨3, ![2, 1024, 256]⟩ 1 4 c X : (⟨3, ![2, 256, 256]⟩ : Shape).Idx → α) (ix3 b i f) = X (ix3 b (seqPos c i) f) :=
  congrArg X (funext fun a => Fin.ext (by
    match a with
    | 0 => rfl
    | 1 => rfl
    | 2 => rfl))

/-! ## The claim -/

/-- With an output that is each device's block of the reference's result. -/
theorem out_block (m : (ℓ : Loc nD τ sig) → Buf (Elt Ideal) ℓ) (ρ : Dev nD → PrngReg) (hpre : Cert.Pre_KernelIdeal_finite_KernelIdeal m)
    (X : (⟨3, ![2, 1024, 512]⟩ : Shape).Idx → EReal) (Wq : (⟨2, ![512, 256]⟩ : Shape).Idx → EReal)
    (K V : (⟨3, ![2, 1024, 256]⟩ : Shape).Idx → EReal) (Wo : (⟨2, ![256, 512]⟩ : Shape).Idx → EReal)
    (h0 : ∀ c : Dev nD, m ((c.tc : Thread nD τ).loc main_arg0) = Layout.block ⟨3, ![2, 256, 512]⟩ ⟨3, ![2, 1024, 512]⟩ 1 4 c X)
    (h1 : ∀ c : Dev nD, m ((c.tc : Thread nD τ).loc main_arg1) = Wq)
    (h2 : ∀ c : Dev nD, m ((c.tc : Thread nD τ).loc main_arg2) = Layout.block ⟨3, ![2, 256, 256]⟩ ⟨3, ![2, 1024, 256]⟩ 1 4 c K)
    (h3 : ∀ c : Dev nD, m ((c.tc : Thread nD τ).loc main_arg3) = Layout.block ⟨3, ![2, 256, 256]⟩ ⟨3, ![2, 1024, 256]⟩ 1 4 c V)
    (h4 : ∀ c : Dev nD, m ((c.tc : Thread nD τ).loc main_arg4) = Wo) (c : Dev nD) :
    outAt m ρ c = Layout.block ⟨3, ![2, 256, 512]⟩ ⟨3, ![2, 1024, 512]⟩ 1 4 c (Cert.ReferenceIdeal.Read.val_main_v44 (F := Ideal) X Wq K V Wo) := by
  have H : Shards m ρ X Wq K V Wo :=
    { x := fun c b i f => (congrFun ((read_win0 _).trans (h0 c)) (ix3 b i f)).trans (block_x X c b i f)
      wq := fun c f e => congrFun ((read_win1 _).trans (h1 c)) (ix2 f e)
      k := fun c b j e => (congrFun ((read_win2 _).trans (h2 c)) (ix3 b j e)).trans (block_k K c b j e)
      v := fun c b j e => (congrFun ((read_win3 _).trans (h3 c)) (ix3 b j e)).trans (block_k V c b j e)
      wo := fun c e n => congrFun ((read_win4 _).trans (h4 c)) (ix2 e n) }
  have hr := fun c : Dev nD => pre_real _ _ _ _ _ (hpre c).1 (hpre c).2.1 (hpre c).2.2
  have hX : ∀ i, IsReal (X i) := fun i => by
    idx_vars i
    obtain ⟨o, j, rfl⟩ := seqPos_surj i1
    rw [← block_x X o i0 j i2, ← h0 o]
    exact (hr o).1 _
  have hW : ∀ i, IsReal (Wq i) := fun i => by
    rw [← h1 0]
    exact (hr 0).2.1 _
  have hK : ∀ i, IsReal (K i) := fun i => by
    idx_vars i
    obtain ⟨o, j, rfl⟩ := seqPos_surj i1
    rw [← block_k K o i0 j i2, ← h2 o]
    exact (hr o).2.2 _
  funext i
  idx_vars i
  rw [block_x]
  exact out_eq H hX hW hK c i0 i1 i2

theorem algebraic_ok : Cert.algebraic_KernelIdeal_ReferenceIdeal_pre_finite_KernelIdeal := by
  intro m g m' g' hpre hag
  refine ⟨Cert.ReferenceIdeal.Value.res_main_v44 (F := Ideal) m' 0, ?_, ?_⟩
  · refine (θ_run defs _ _).mono (fun r h c => ?_) (run_ends (F := Ideal) m g)
    obtain ⟨hout, hargs⟩ := h.1 c
    refine ⟨?_, hargs⟩
    rw [Cert.ReferenceIdeal.Read.val_main_v44_eq]
    exact ((read_win5 _).symm.trans hout).trans (out_block m g hpre _ _ _ _ _ (fun c => (hag c).1) (fun c => (hag c).2.1) (fun c => (hag c).2.2.1)
      (fun c => (hag c).2.2.2.1) (fun c => (hag c).2.2.2.2) c)
  · exact (θ_run Cert.ReferenceIdeal.defs _ _).mono (fun r h => h 0) (Cert.ReferenceIdeal.Value.run (F := Ideal) m' g')

end Cert.Attn

end
-- ==== Proof.lean ====
/-
  The certificate: the frames of the kernel, of its idealised program and of the reference, the constant that the
  idealised program names, and the value of the idealised program.
-/
module

public import proofs.«01_k».proof.Defs
public import proofs.«01_k».proof.Proof.Gen.ReferenceIdeal.Run
public import proofs.«01_k».proof.Proof.Kern.Frames
public import proofs.«01_k».proof.Proof.Val.Close
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Attn.pre_kernel_facts,
    Cert.Attn.pre_reference_facts, Cert.Attn.frame_kernel, Cert.Attn.frame_ideal, fun m g _ => Cert.Attn.frame_ideal m g trivial,
    Cert.Attn.frame_ref, fun m g _ => Cert.Attn.frame_ref m g trivial, IdealRules.named_const.statement _ _ _ _ _ rfl,
    Cert.Attn.algebraic_ok⟩

end Cert.Proof

end
